-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 256, 256]⟩ ⟨5, ![2, 4, 4, 256, 256]⟩ (Layout.meshBlock [2, 4, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x256x256 : Shape := ⟨5, ![1, 1, 1, 256, 256]⟩
abbrev S256x256 : Shape := ⟨2, ![256, 256]⟩
abbrev S8x16x256 : Shape := ⟨3, ![8, 16, 256]⟩
abbrev S8x4x16x256 : Shape := ⟨4, ![8, 4, 16, 256]⟩
abbrev S8 : Shape := ⟨1, ![8]⟩
abbrev S8x4 : Shape := ⟨2, ![8, 4]⟩
abbrev S_ : Shape := ⟨0, ![]⟩
abbrev S1 : Shape := ⟨1, ![1]⟩
abbrev S1x16x256 : Shape := ⟨3, ![1, 16, 256]⟩
abbrev S16x256 : Shape := ⟨2, ![16, 256]⟩
abbrev S1x1 : Shape := ⟨2, ![1, 1]⟩
abbrev S1x1x16x256 : Shape := ⟨4, ![1, 1, 16, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x1x1x256x256, .f32⟩
  | .hbm, ⟨1, _⟩ => ⟨S256x256, .f32⟩
  | .local _ .vmem, ⟨0, _⟩ => ⟨S1x1x1x256x256, .f32⟩
  | .local _ .vmem, ⟨1, _⟩ => ⟨S256x256, .f32⟩
  | .local _ .vmem, ⟨2, _⟩ => ⟨S8x16x256, .f32⟩
  | .local _ .vmem, ⟨3, _⟩ => ⟨S8x4x16x256, .f32⟩
  | _, _ => ⟨S1x1x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v18 : BitVec 32 := Scalar.muli v9 c16_i32_10
  let v19 : BitVec 32 := Scalar.addi c0_i32 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v24 : BitVec 32 := Scalar.muli v2 c16_i32_14
  let v25 : BitVec 32 := Scalar.addi c0_i32_15 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_16 : BitVec 32 := 4#32
  let v26 : BitVec 32 := Scalar.muli v10 c4_i32_16
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v28 : BitVec 32 := Scalar.muli v8 c1_i32_17
  let v29 : BitVec 32 := Scalar.addi v27 v28
  v29.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v30 : BitVec 32 := Scalar.muli v2 c16_i32_19
  let v31 : BitVec 32 := Scalar.addi c0_i32_20 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v32 : BitVec 32 := Scalar.muli v5 c4_i32_21
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_22 : BitVec 32 := 1#32
  let v34 : BitVec 32 := Scalar.muli v11 c1_i32_22
  let v35 : BitVec 32 := Scalar.addi v33 v34
  v35.toNat
def k0_dev4 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v36 : BitVec 32 := Scalar.muli v2 c16_i32_24
  let v37 : BitVec 32 := Scalar.addi c0_i32_25 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_26 : BitVec 32 := 4#32
  let v38 : BitVec 32 := Scalar.muli v12 c4_i32_26
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v40 : BitVec 32 := Scalar.muli v8 c1_i32_27
  let v41 : BitVec 32 := Scalar.addi v39 v40
  v41.toNat
def k0_dev5 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v42 : BitVec 32 := Scalar.muli v2 c16_i32_29
  let v43 : BitVec 32 := Scalar.addi c0_i32_30 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v44 : BitVec 32 := Scalar.muli v5 c4_i32_31
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_32 : BitVec 32 := 1#32
  let v46 : BitVec 32 := Scalar.muli v13 c1_i32_32
  let v47 : BitVec 32 := Scalar.addi v45 v46
  v47.toNat
def k0_off1 (d0 : Dev nD) (c0_i32_39 : BitVec 32) : Fin 2 → Nat :=
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_7 v2
  let c128_i32_8 : BitVec 32 := 128#32
  let v16 : BitVec 32 := Scalar.muli v15 c128_i32_8
  let v51 : BitVec 32 := Scalar.addi v16 c0_i32_39
  let c0_i32_49 : BitVec 32 := 0#32
  ![v51.toNat, 0]
def k0_dev6 (d0 : Dev nD) : Nat :=
  let c0_i32_44 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_43 : BitVec 32 := 16#32
  let v52 : BitVec 32 := Scalar.muli v9 c16_i32_43
  let v53 : BitVec 32 := Scalar.addi c0_i32_44 v52
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v54 : BitVec 32 := Scalar.muli v5 c4_i32_45
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v56 : BitVec 32 := Scalar.muli v8 c1_i32_46
  let v57 : BitVec 32 := Scalar.addi v55 v56
  v57.toNat
def k0_dev7 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v66 : BitVec 32 := Scalar.muli v9 c16_i32_54
  let v67 : BitVec 32 := Scalar.addi c0_i32_55 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v68 : BitVec 32 := Scalar.muli v5 c4_i32_56
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v70 : BitVec 32 := Scalar.muli v8 c1_i32_57
  let v71 : BitVec 32 := Scalar.addi v69 v70
  v71.toNat
def k0_dev8 (d0 : Dev nD) : Nat :=
  let c0_i32_65 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_64 : BitVec 32 := 16#32
  let v80 : BitVec 32 := Scalar.muli v9 c16_i32_64
  let v81 : BitVec 32 := Scalar.addi c0_i32_65 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v82 : BitVec 32 := Scalar.muli v5 c4_i32_66
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v84 : BitVec 32 := Scalar.muli v8 c1_i32_67
  let v85 : BitVec 32 := Scalar.addi v83 v84
  v85.toNat
def k0_dev9 (d0 : Dev nD) : Nat :=
  let c0_i32_74 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_73 : BitVec 32 := 16#32
  let v94 : BitVec 32 := Scalar.muli v9 c16_i32_73
  let v95 : BitVec 32 := Scalar.addi c0_i32_74 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v96 : BitVec 32 := Scalar.muli v5 c4_i32_75
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v98 : BitVec 32 := Scalar.muli v8 c1_i32_76
  let v99 : BitVec 32 := Scalar.addi v97 v98
  v99.toNat
def k0_dev10 (d0 : Dev nD) : Nat :=
  let c0_i32_84 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_83 : BitVec 32 := 16#32
  let v108 : BitVec 32 := Scalar.muli v9 c16_i32_83
  let v109 : BitVec 32 := Scalar.addi c0_i32_84 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v110 : BitVec 32 := Scalar.muli v5 c4_i32_85
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v112 : BitVec 32 := Scalar.muli v8 c1_i32_86
  let v113 : BitVec 32 := Scalar.addi v111 v112
  v113.toNat
def k0_dev11 (d0 : Dev nD) : Nat :=
  let c0_i32_94 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_93 : BitVec 32 := 16#32
  let v122 : BitVec 32 := Scalar.muli v9 c16_i32_93
  let v123 : BitVec 32 := Scalar.addi c0_i32_94 v122
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v124 : BitVec 32 := Scalar.muli v5 c4_i32_95
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v126 : BitVec 32 := Scalar.muli v8 c1_i32_96
  let v127 : BitVec 32 := Scalar.addi v125 v126
  v127.toNat
def k0_dev12 (d0 : Dev nD) : Nat :=
  let c0_i32_103 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_102 : BitVec 32 := 16#32
  let v136 : BitVec 32 := Scalar.muli v9 c16_i32_102
  let v137 : BitVec 32 := Scalar.addi c0_i32_103 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v138 : BitVec 32 := Scalar.muli v5 c4_i32_104
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v140 : BitVec 32 := Scalar.muli v8 c1_i32_105
  let v141 : BitVec 32 := Scalar.addi v139 v140
  v141.toNat
def k0_dev13 (d0 : Dev nD) : Nat :=
  let c0_i32_112 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_111 : BitVec 32 := 16#32
  let v150 : BitVec 32 := Scalar.muli v9 c16_i32_111
  let v151 : BitVec 32 := Scalar.addi c0_i32_112 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v152 : BitVec 32 := Scalar.muli v5 c4_i32_113
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v154 : BitVec 32 := Scalar.muli v8 c1_i32_114
  let v155 : BitVec 32 := Scalar.addi v153 v154
  v155.toNat
def k0_off2 (d0 : Dev nD) (c0_i32_135 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c128_i32 : BitVec 32 := 128#32
  let v14 : BitVec 32 := Scalar.muli v2 c128_i32
  let v179 : BitVec 32 := Scalar.addi v14 c0_i32_135
  let v180 : Index := Scalar.indexCast v179
  let c0_136 : Index := 0#32
  ![v180.toNat, 0]
def k0_off3 (d0 : Dev nD) (c0_i32_142 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c128_i32 : BitVec 32 := 128#32
  let v14 : BitVec 32 := Scalar.muli v2 c128_i32
  let v189 : BitVec 32 := Scalar.addi v14 c0_i32_142
  let c0_i32_155 : BitVec 32 := 0#32
  ![v189.toNat, 0]
def k0_dev14 (d0 : Dev nD) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v190 : BitVec 32 := Scalar.muli v2 c16_i32_149
  let v191 : BitVec 32 := Scalar.addi c0_i32_150 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_151 : BitVec 32 := 4#32
  let v192 : BitVec 32 := Scalar.muli v10 c4_i32_151
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v194 : BitVec 32 := Scalar.muli v8 c1_i32_152
  let v195 : BitVec 32 := Scalar.addi v193 v194
  v195.toNat
def k0_dev15 (d0 : Dev nD) : Nat :=
  let c0_i32_187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_186 : BitVec 32 := 16#32
  let v230 : BitVec 32 := Scalar.muli v2 c16_i32_186
  let v231 : BitVec 32 := Scalar.addi c0_i32_187 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v232 : BitVec 32 := Scalar.muli v5 c4_i32_188
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_189 : BitVec 32 := 1#32
  let v234 : BitVec 32 := Scalar.muli v11 c1_i32_189
  let v235 : BitVec 32 := Scalar.addi v233 v234
  v235.toNat
def k0_dev16 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v270 : BitVec 32 := Scalar.muli v2 c16_i32_223
  let v271 : BitVec 32 := Scalar.addi c0_i32_224 v270
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_225 : BitVec 32 := 4#32
  let v272 : BitVec 32 := Scalar.muli v12 c4_i32_225
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v274 : BitVec 32 := Scalar.muli v8 c1_i32_226
  let v275 : BitVec 32 := Scalar.addi v273 v274
  v275.toNat
def k0_dev17 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_260 : BitVec 32 := 16#32
  let v310 : BitVec 32 := Scalar.muli v2 c16_i32_260
  let v311 : BitVec 32 := Scalar.addi c0_i32_261 v310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v312 : BitVec 32 := Scalar.muli v5 c4_i32_262
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_263 : BitVec 32 := 1#32
  let v314 : BitVec 32 := Scalar.muli v13 c1_i32_263
  let v315 : BitVec 32 := Scalar.addi v313 v314
  v315.toNat
def k0_dev18 (d0 : Dev nD) : Nat :=
  let c0_i32_298 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_297 : BitVec 32 := 16#32
  let v350 : BitVec 32 := Scalar.muli v2 c16_i32_297
  let v351 : BitVec 32 := Scalar.addi c0_i32_298 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_299 : BitVec 32 := 4#32
  let v352 : BitVec 32 := Scalar.muli v10 c4_i32_299
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v354 : BitVec 32 := Scalar.muli v8 c1_i32_300
  let v355 : BitVec 32 := Scalar.addi v353 v354
  v355.toNat
def k0_dev19 (d0 : Dev nD) : Nat :=
  let c0_i32_335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_334 : BitVec 32 := 16#32
  let v390 : BitVec 32 := Scalar.muli v2 c16_i32_334
  let v391 : BitVec 32 := Scalar.addi c0_i32_335 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_336 : BitVec 32 := 4#32
  let v392 : BitVec 32 := Scalar.muli v5 c4_i32_336
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_337 : BitVec 32 := 1#32
  let v394 : BitVec 32 := Scalar.muli v11 c1_i32_337
  let v395 : BitVec 32 := Scalar.addi v393 v394
  v395.toNat
def k0_dev20 (d0 : Dev nD) : Nat :=
  let c0_i32_372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_371 : BitVec 32 := 16#32
  let v430 : BitVec 32 := Scalar.muli v2 c16_i32_371
  let v431 : BitVec 32 := Scalar.addi c0_i32_372 v430
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_373 : BitVec 32 := 4#32
  let v432 : BitVec 32 := Scalar.muli v12 c4_i32_373
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v434 : BitVec 32 := Scalar.muli v8 c1_i32_374
  let v435 : BitVec 32 := Scalar.addi v433 v434
  v435.toNat
def k0_dev21 (d0 : Dev nD) : Nat :=
  let c0_i32_409 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_408 : BitVec 32 := 16#32
  let v470 : BitVec 32 := Scalar.muli v2 c16_i32_408
  let v471 : BitVec 32 := Scalar.addi c0_i32_409 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_410 : BitVec 32 := 4#32
  let v472 : BitVec 32 := Scalar.muli v5 c4_i32_410
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_411 : BitVec 32 := 1#32
  let v474 : BitVec 32 := Scalar.muli v13 c1_i32_411
  let v475 : BitVec 32 := Scalar.addi v473 v474
  v475.toNat
def k0_dev22 (d0 : Dev nD) : Nat :=
  let c0_i32_454 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_453 : BitVec 32 := 16#32
  let v510 : BitVec 32 := Scalar.muli v2 c16_i32_453
  let v511 : BitVec 32 := Scalar.addi c0_i32_454 v510
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_455 : BitVec 32 := 4#32
  let v512 : BitVec 32 := Scalar.muli v5 c4_i32_455
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_456 : BitVec 32 := 1#32
  let v514 : BitVec 32 := Scalar.muli v11 c1_i32_456
  let v515 : BitVec 32 := Scalar.addi v513 v514
  v515.toNat
def k0_dev23 (d0 : Dev nD) : Nat :=
  let c0_i32_499 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_498 : BitVec 32 := 16#32
  let v550 : BitVec 32 := Scalar.muli v2 c16_i32_498
  let v551 : BitVec 32 := Scalar.addi c0_i32_499 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_500 : BitVec 32 := 4#32
  let v552 : BitVec 32 := Scalar.muli v12 c4_i32_500
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v554 : BitVec 32 := Scalar.muli v8 c1_i32_501
  let v555 : BitVec 32 := Scalar.addi v553 v554
  v555.toNat
def k0_dev24 (d0 : Dev nD) : Nat :=
  let c0_i32_544 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_543 : BitVec 32 := 16#32
  let v590 : BitVec 32 := Scalar.muli v2 c16_i32_543
  let v591 : BitVec 32 := Scalar.addi c0_i32_544 v590
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_545 : BitVec 32 := 4#32
  let v592 : BitVec 32 := Scalar.muli v5 c4_i32_545
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_546 : BitVec 32 := 1#32
  let v594 : BitVec 32 := Scalar.muli v13 c1_i32_546
  let v595 : BitVec 32 := Scalar.addi v593 v594
  v595.toNat
def k0_dev25 (d0 : Dev nD) : Nat :=
  let c0_i32_589 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_588 : BitVec 32 := 16#32
  let v630 : BitVec 32 := Scalar.muli v2 c16_i32_588
  let v631 : BitVec 32 := Scalar.addi c0_i32_589 v630
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_590 : BitVec 32 := 4#32
  let v632 : BitVec 32 := Scalar.muli v10 c4_i32_590
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_591 : BitVec 32 := 1#32
  let v634 : BitVec 32 := Scalar.muli v8 c1_i32_591
  let v635 : BitVec 32 := Scalar.addi v633 v634
  v635.toNat
def k0_dev26 (d0 : Dev nD) : Nat :=
  let c0_i32_634 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_633 : BitVec 32 := 16#32
  let v670 : BitVec 32 := Scalar.muli v2 c16_i32_633
  let v671 : BitVec 32 := Scalar.addi c0_i32_634 v670
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_635 : BitVec 32 := 4#32
  let v672 : BitVec 32 := Scalar.muli v5 c4_i32_635
  let v673 : BitVec 32 := Scalar.addi v671 v672
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_636 : BitVec 32 := 1#32
  let v674 : BitVec 32 := Scalar.muli v11 c1_i32_636
  let v675 : BitVec 32 := Scalar.addi v673 v674
  v675.toNat
def k0_dev27 (d0 : Dev nD) : Nat :=
  let c0_i32_679 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_678 : BitVec 32 := 16#32
  let v710 : BitVec 32 := Scalar.muli v2 c16_i32_678
  let v711 : BitVec 32 := Scalar.addi c0_i32_679 v710
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_680 : BitVec 32 := 4#32
  let v712 : BitVec 32 := Scalar.muli v12 c4_i32_680
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_681 : BitVec 32 := 1#32
  let v714 : BitVec 32 := Scalar.muli v8 c1_i32_681
  let v715 : BitVec 32 := Scalar.addi v713 v714
  v715.toNat
def k0_dev28 (d0 : Dev nD) : Nat :=
  let c0_i32_724 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_723 : BitVec 32 := 16#32
  let v750 : BitVec 32 := Scalar.muli v2 c16_i32_723
  let v751 : BitVec 32 := Scalar.addi c0_i32_724 v750
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_725 : BitVec 32 := 4#32
  let v752 : BitVec 32 := Scalar.muli v5 c4_i32_725
  let v753 : BitVec 32 := Scalar.addi v751 v752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_726 : BitVec 32 := 1#32
  let v754 : BitVec 32 := Scalar.muli v13 c1_i32_726
  let v755 : BitVec 32 := Scalar.addi v753 v754
  v755.toNat
def k0_dev29 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v790 : BitVec 32 := Scalar.muli v2 c16_i32_768
  let v791 : BitVec 32 := Scalar.addi c0_i32_769 v790
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_770 : BitVec 32 := 4#32
  let v792 : BitVec 32 := Scalar.muli v10 c4_i32_770
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v794 : BitVec 32 := Scalar.muli v8 c1_i32_771
  let v795 : BitVec 32 := Scalar.addi v793 v794
  v795.toNat
def k0_dev30 (d0 : Dev nD) : Nat :=
  let c0_i32_814 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_813 : BitVec 32 := 16#32
  let v830 : BitVec 32 := Scalar.muli v2 c16_i32_813
  let v831 : BitVec 32 := Scalar.addi c0_i32_814 v830
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_815 : BitVec 32 := 4#32
  let v832 : BitVec 32 := Scalar.muli v12 c4_i32_815
  let v833 : BitVec 32 := Scalar.addi v831 v832
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_816 : BitVec 32 := 1#32
  let v834 : BitVec 32 := Scalar.muli v8 c1_i32_816
  let v835 : BitVec 32 := Scalar.addi v833 v834
  v835.toNat
def k0_dev31 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v870 : BitVec 32 := Scalar.muli v2 c16_i32_858
  let v871 : BitVec 32 := Scalar.addi c0_i32_859 v870
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v872 : BitVec 32 := Scalar.muli v5 c4_i32_860
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_861 : BitVec 32 := 1#32
  let v874 : BitVec 32 := Scalar.muli v13 c1_i32_861
  let v875 : BitVec 32 := Scalar.addi v873 v874
  v875.toNat
def k0_dev32 (d0 : Dev nD) : Nat :=
  let c0_i32_904 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_903 : BitVec 32 := 16#32
  let v910 : BitVec 32 := Scalar.muli v2 c16_i32_903
  let v911 : BitVec 32 := Scalar.addi c0_i32_904 v910
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_905 : BitVec 32 := 4#32
  let v912 : BitVec 32 := Scalar.muli v10 c4_i32_905
  let v913 : BitVec 32 := Scalar.addi v911 v912
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v914 : BitVec 32 := Scalar.muli v8 c1_i32_906
  let v915 : BitVec 32 := Scalar.addi v913 v914
  v915.toNat
def k0_dev33 (d0 : Dev nD) : Nat :=
  let c0_i32_949 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_948 : BitVec 32 := 16#32
  let v950 : BitVec 32 := Scalar.muli v2 c16_i32_948
  let v951 : BitVec 32 := Scalar.addi c0_i32_949 v950
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_950 : BitVec 32 := 4#32
  let v952 : BitVec 32 := Scalar.muli v5 c4_i32_950
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_951 : BitVec 32 := 1#32
  let v954 : BitVec 32 := Scalar.muli v11 c1_i32_951
  let v955 : BitVec 32 := Scalar.addi v953 v954
  v955.toNat
def k0_dev34 (d0 : Dev nD) : Nat :=
  let c0_i32_994 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_993 : BitVec 32 := 16#32
  let v990 : BitVec 32 := Scalar.muli v2 c16_i32_993
  let v991 : BitVec 32 := Scalar.addi c0_i32_994 v990
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_995 : BitVec 32 := 4#32
  let v992 : BitVec 32 := Scalar.muli v12 c4_i32_995
  let v993 : BitVec 32 := Scalar.addi v991 v992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_996 : BitVec 32 := 1#32
  let v994 : BitVec 32 := Scalar.muli v8 c1_i32_996
  let v995 : BitVec 32 := Scalar.addi v993 v994
  v995.toNat
def k0_dev35 (d0 : Dev nD) : Nat :=
  let c0_i32_1039 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1038 : BitVec 32 := 16#32
  let v1030 : BitVec 32 := Scalar.muli v2 c16_i32_1038
  let v1031 : BitVec 32 := Scalar.addi c0_i32_1039 v1030
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1040 : BitVec 32 := 4#32
  let v1032 : BitVec 32 := Scalar.muli v5 c4_i32_1040
  let v1033 : BitVec 32 := Scalar.addi v1031 v1032
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_1041 : BitVec 32 := 1#32
  let v1034 : BitVec 32 := Scalar.muli v13 c1_i32_1041
  let v1035 : BitVec 32 := Scalar.addi v1033 v1034
  v1035.toNat
def k0_dev36 (d0 : Dev nD) : Nat :=
  let c0_i32_1084 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1083 : BitVec 32 := 16#32
  let v1070 : BitVec 32 := Scalar.muli v2 c16_i32_1083
  let v1071 : BitVec 32 := Scalar.addi c0_i32_1084 v1070
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_1085 : BitVec 32 := 4#32
  let v1072 : BitVec 32 := Scalar.muli v10 c4_i32_1085
  let v1073 : BitVec 32 := Scalar.addi v1071 v1072
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1086 : BitVec 32 := 1#32
  let v1074 : BitVec 32 := Scalar.muli v8 c1_i32_1086
  let v1075 : BitVec 32 := Scalar.addi v1073 v1074
  v1075.toNat
def k0_dev37 (d0 : Dev nD) : Nat :=
  let c0_i32_1129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1128 : BitVec 32 := 16#32
  let v1110 : BitVec 32 := Scalar.muli v2 c16_i32_1128
  let v1111 : BitVec 32 := Scalar.addi c0_i32_1129 v1110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1130 : BitVec 32 := 4#32
  let v1112 : BitVec 32 := Scalar.muli v5 c4_i32_1130
  let v1113 : BitVec 32 := Scalar.addi v1111 v1112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_1131 : BitVec 32 := 1#32
  let v1114 : BitVec 32 := Scalar.muli v11 c1_i32_1131
  let v1115 : BitVec 32 := Scalar.addi v1113 v1114
  v1115.toNat
def k0_dev38 (d0 : Dev nD) : Nat :=
  let c0_i32_1174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1173 : BitVec 32 := 16#32
  let v1150 : BitVec 32 := Scalar.muli v2 c16_i32_1173
  let v1151 : BitVec 32 := Scalar.addi c0_i32_1174 v1150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1175 : BitVec 32 := 4#32
  let v1152 : BitVec 32 := Scalar.muli v5 c4_i32_1175
  let v1153 : BitVec 32 := Scalar.addi v1151 v1152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_1176 : BitVec 32 := 1#32
  let v1154 : BitVec 32 := Scalar.muli v13 c1_i32_1176
  let v1155 : BitVec 32 := Scalar.addi v1153 v1154
  v1155.toNat
def k0_dev39 (d0 : Dev nD) : Nat :=
  let c0_i32_1219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1218 : BitVec 32 := 16#32
  let v1190 : BitVec 32 := Scalar.muli v2 c16_i32_1218
  let v1191 : BitVec 32 := Scalar.addi c0_i32_1219 v1190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_1220 : BitVec 32 := 4#32
  let v1192 : BitVec 32 := Scalar.muli v10 c4_i32_1220
  let v1193 : BitVec 32 := Scalar.addi v1191 v1192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1221 : BitVec 32 := 1#32
  let v1194 : BitVec 32 := Scalar.muli v8 c1_i32_1221
  let v1195 : BitVec 32 := Scalar.addi v1193 v1194
  v1195.toNat
def k0_dev40 (d0 : Dev nD) : Nat :=
  let c0_i32_1264 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1263 : BitVec 32 := 16#32
  let v1230 : BitVec 32 := Scalar.muli v2 c16_i32_1263
  let v1231 : BitVec 32 := Scalar.addi c0_i32_1264 v1230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1265 : BitVec 32 := 4#32
  let v1232 : BitVec 32 := Scalar.muli v5 c4_i32_1265
  let v1233 : BitVec 32 := Scalar.addi v1231 v1232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_1266 : BitVec 32 := 1#32
  let v1234 : BitVec 32 := Scalar.muli v11 c1_i32_1266
  let v1235 : BitVec 32 := Scalar.addi v1233 v1234
  v1235.toNat
def k0_dev41 (d0 : Dev nD) : Nat :=
  let c0_i32_1309 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1308 : BitVec 32 := 16#32
  let v1270 : BitVec 32 := Scalar.muli v2 c16_i32_1308
  let v1271 : BitVec 32 := Scalar.addi c0_i32_1309 v1270
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_1310 : BitVec 32 := 4#32
  let v1272 : BitVec 32 := Scalar.muli v12 c4_i32_1310
  let v1273 : BitVec 32 := Scalar.addi v1271 v1272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1311 : BitVec 32 := 1#32
  let v1274 : BitVec 32 := Scalar.muli v8 c1_i32_1311
  let v1275 : BitVec 32 := Scalar.addi v1273 v1274
  v1275.toNat
def k0_dev42 (d0 : Dev nD) : Nat :=
  let c0_i32_1354 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1353 : BitVec 32 := 16#32
  let v1310 : BitVec 32 := Scalar.muli v2 c16_i32_1353
  let v1311 : BitVec 32 := Scalar.addi c0_i32_1354 v1310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1355 : BitVec 32 := 4#32
  let v1312 : BitVec 32 := Scalar.muli v5 c4_i32_1355
  let v1313 : BitVec 32 := Scalar.addi v1311 v1312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v13 : BitVec 32 := Scalar.xori v8 c2_i32_6
  let c1_i32_1356 : BitVec 32 := 1#32
  let v1314 : BitVec 32 := Scalar.muli v13 c1_i32_1356
  let v1315 : BitVec 32 := Scalar.addi v1313 v1314
  v1315.toNat
def k0_dev43 (d0 : Dev nD) : Nat :=
  let c0_i32_1399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1398 : BitVec 32 := 16#32
  let v1350 : BitVec 32 := Scalar.muli v2 c16_i32_1398
  let v1351 : BitVec 32 := Scalar.addi c0_i32_1399 v1350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_1400 : BitVec 32 := 4#32
  let v1352 : BitVec 32 := Scalar.muli v10 c4_i32_1400
  let v1353 : BitVec 32 := Scalar.addi v1351 v1352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1401 : BitVec 32 := 1#32
  let v1354 : BitVec 32 := Scalar.muli v8 c1_i32_1401
  let v1355 : BitVec 32 := Scalar.addi v1353 v1354
  v1355.toNat
def k0_dev44 (d0 : Dev nD) : Nat :=
  let c0_i32_1444 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1443 : BitVec 32 := 16#32
  let v1390 : BitVec 32 := Scalar.muli v2 c16_i32_1443
  let v1391 : BitVec 32 := Scalar.addi c0_i32_1444 v1390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1445 : BitVec 32 := 4#32
  let v1392 : BitVec 32 := Scalar.muli v5 c4_i32_1445
  let v1393 : BitVec 32 := Scalar.addi v1391 v1392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_1446 : BitVec 32 := 1#32
  let v1394 : BitVec 32 := Scalar.muli v11 c1_i32_1446
  let v1395 : BitVec 32 := Scalar.addi v1393 v1394
  v1395.toNat
def k0_dev45 (d0 : Dev nD) : Nat :=
  let c0_i32_1489 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1488 : BitVec 32 := 16#32
  let v1430 : BitVec 32 := Scalar.muli v2 c16_i32_1488
  let v1431 : BitVec 32 := Scalar.addi c0_i32_1489 v1430
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v12 : BitVec 32 := Scalar.xori v5 c2_i32_5
  let c4_i32_1490 : BitVec 32 := 4#32
  let v1432 : BitVec 32 := Scalar.muli v12 c4_i32_1490
  let v1433 : BitVec 32 := Scalar.addi v1431 v1432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1491 : BitVec 32 := 1#32
  let v1434 : BitVec 32 := Scalar.muli v8 c1_i32_1491
  let v1435 : BitVec 32 := Scalar.addi v1433 v1434
  v1435.toNat
def k0_dev46 (d0 : Dev nD) : Nat :=
  let c0_i32_1531 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1530 : BitVec 32 := 16#32
  let v1471 : BitVec 32 := Scalar.muli v9 c16_i32_1530
  let v1472 : BitVec 32 := Scalar.addi c0_i32_1531 v1471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1532 : BitVec 32 := 4#32
  let v1473 : BitVec 32 := Scalar.muli v5 c4_i32_1532
  let v1474 : BitVec 32 := Scalar.addi v1472 v1473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1533 : BitVec 32 := 1#32
  let v1475 : BitVec 32 := Scalar.muli v8 c1_i32_1533
  let v1476 : BitVec 32 := Scalar.addi v1474 v1475
  v1476.toNat
def k0_dev47 (d0 : Dev nD) : Nat :=
  let c0_i32_1572 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1571 : BitVec 32 := 16#32
  let v1511 : BitVec 32 := Scalar.muli v9 c16_i32_1571
  let v1512 : BitVec 32 := Scalar.addi c0_i32_1572 v1511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1573 : BitVec 32 := 4#32
  let v1513 : BitVec 32 := Scalar.muli v5 c4_i32_1573
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1574 : BitVec 32 := 1#32
  let v1515 : BitVec 32 := Scalar.muli v8 c1_i32_1574
  let v1516 : BitVec 32 := Scalar.addi v1514 v1515
  v1516.toNat
def k0_dev48 (d0 : Dev nD) : Nat :=
  let c0_i32_1613 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1612 : BitVec 32 := 16#32
  let v1551 : BitVec 32 := Scalar.muli v9 c16_i32_1612
  let v1552 : BitVec 32 := Scalar.addi c0_i32_1613 v1551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1614 : BitVec 32 := 4#32
  let v1553 : BitVec 32 := Scalar.muli v5 c4_i32_1614
  let v1554 : BitVec 32 := Scalar.addi v1552 v1553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1615 : BitVec 32 := 1#32
  let v1555 : BitVec 32 := Scalar.muli v8 c1_i32_1615
  let v1556 : BitVec 32 := Scalar.addi v1554 v1555
  v1556.toNat
def k0_dev49 (d0 : Dev nD) : Nat :=
  let c0_i32_1654 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1653 : BitVec 32 := 16#32
  let v1591 : BitVec 32 := Scalar.muli v9 c16_i32_1653
  let v1592 : BitVec 32 := Scalar.addi c0_i32_1654 v1591
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1655 : BitVec 32 := 4#32
  let v1593 : BitVec 32 := Scalar.muli v5 c4_i32_1655
  let v1594 : BitVec 32 := Scalar.addi v1592 v1593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1656 : BitVec 32 := 1#32
  let v1595 : BitVec 32 := Scalar.muli v8 c1_i32_1656
  let v1596 : BitVec 32 := Scalar.addi v1594 v1595
  v1596.toNat
def k0_dev50 (d0 : Dev nD) : Nat :=
  let c0_i32_1695 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1694 : BitVec 32 := 16#32
  let v1631 : BitVec 32 := Scalar.muli v9 c16_i32_1694
  let v1632 : BitVec 32 := Scalar.addi c0_i32_1695 v1631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1696 : BitVec 32 := 4#32
  let v1633 : BitVec 32 := Scalar.muli v5 c4_i32_1696
  let v1634 : BitVec 32 := Scalar.addi v1632 v1633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1697 : BitVec 32 := 1#32
  let v1635 : BitVec 32 := Scalar.muli v8 c1_i32_1697
  let v1636 : BitVec 32 := Scalar.addi v1634 v1635
  v1636.toNat
def k0_dev51 (d0 : Dev nD) : Nat :=
  let c0_i32_1736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1735 : BitVec 32 := 16#32
  let v1671 : BitVec 32 := Scalar.muli v9 c16_i32_1735
  let v1672 : BitVec 32 := Scalar.addi c0_i32_1736 v1671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1737 : BitVec 32 := 4#32
  let v1673 : BitVec 32 := Scalar.muli v5 c4_i32_1737
  let v1674 : BitVec 32 := Scalar.addi v1672 v1673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1738 : BitVec 32 := 1#32
  let v1675 : BitVec 32 := Scalar.muli v8 c1_i32_1738
  let v1676 : BitVec 32 := Scalar.addi v1674 v1675
  v1676.toNat
def k0_dev52 (d0 : Dev nD) : Nat :=
  let c0_i32_1777 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1776 : BitVec 32 := 16#32
  let v1711 : BitVec 32 := Scalar.muli v9 c16_i32_1776
  let v1712 : BitVec 32 := Scalar.addi c0_i32_1777 v1711
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1778 : BitVec 32 := 4#32
  let v1713 : BitVec 32 := Scalar.muli v5 c4_i32_1778
  let v1714 : BitVec 32 := Scalar.addi v1712 v1713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1779 : BitVec 32 := 1#32
  let v1715 : BitVec 32 := Scalar.muli v8 c1_i32_1779
  let v1716 : BitVec 32 := Scalar.addi v1714 v1715
  v1716.toNat
def k0_dev53 (d0 : Dev nD) : Nat :=
  let c0_i32_1818 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1817 : BitVec 32 := 16#32
  let v1751 : BitVec 32 := Scalar.muli v9 c16_i32_1817
  let v1752 : BitVec 32 := Scalar.addi c0_i32_1818 v1751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1819 : BitVec 32 := 4#32
  let v1753 : BitVec 32 := Scalar.muli v5 c4_i32_1819
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1820 : BitVec 32 := 1#32
  let v1755 : BitVec 32 := Scalar.muli v8 c1_i32_1820
  let v1756 : BitVec 32 := Scalar.addi v1754 v1755
  v1756.toNat
abbrev stage0_0 : Fin 1 → Memref sig .tc .vmem S1x1x1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4x4x256x256 : Shape := ⟨5, ![2, 4, 4, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S2x4x4x256x256, .f32⟩
  | .hbm, ⟨1, _⟩ => ⟨S_, .f32⟩
  | .hbm, ⟨2, _⟩ => ⟨S256x256, .f32⟩
  | _, _ => ⟨S2x4x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Steps.lean ====
/-
# The kernel's body as a list of steps

The body works on eight chunks of sixteen rows of the device's own half of the result. Every chunk goes
through the same twenty-three steps: it is sent across the `x` axis, its counterpart is received and
added, then four times it is sent to a partner across `y` or `z` and the partner's sum is received and
added, and at the end the finished chunk is sent back across the `x` axis. The body interleaves the eight
chunks. This module names the steps (`St`), gives the program of one step on one chunk (`act`), lists the order
(`order`), and proves that the printed body is a short prelude followed by the steps in that order.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Cube

open Idealize.ShloMosaic Idealize.ShloMosaic.TcCoe
open Idealize.SL Idealize.SL.Sem
open Cert.KernelIdeal Cert.KernelIdeal.Gen

variable {F : FTy → Type} [FloatOps F]

/-- The input block's staging buffer. -/
abbrev inM : Memref sig .tc .vmem S1x1x1x256x256 .f32 := Memref.whole cc0_stg0_0
/-- The result's staging buffer: the buffer every chunk is accumulated in. -/
abbrev outM : Memref sig .tc .vmem S256x256 .f32 := Memref.whole cc0_stg1_0
/-- Where the chunks sent across `x` land. -/
abbrev xrsM : Memref sig .tc .vmem S8x16x256 .f32 := Memref.whole cc0_scratch0
/-- Where the chunks sent across `y` and `z` land. -/
abbrev midM : Memref sig .tc .vmem S8x4x16x256 .f32 := Memref.whole cc0_scratch1

/-- A chunk's rows fit: chunk `p` of a buffer of eight. -/
theorem inb8 (p : Fin 8) : ∀ a, (![p.val] : Fin 1 → Nat) a + S1.size a ≤ S8.size a := by revert p; decide
theorem inb84 (p : Fin 8) (t : Fin 4) : ∀ a, (![p.val, t.val] : Fin 2 → Nat) a + S1x1.size a ≤ S8x4.size a := by
  revert p t; decide
theorem inbX (p : Fin 8) : ∀ a, (![p.val, 0, 0] : Fin 3 → Nat) a + S1x16x256.size a ≤ S8x16x256.size a := by
  revert p; decide
theorem inbM (p : Fin 8) (t : Fin 4) : ∀ a, (![p.val, t.val, 0, 0] : Fin 4 → Nat) a + S1x1x16x256.size a ≤ S8x4x16x256.size a := by
  revert p t; decide

/-- The offset of chunk `p` within a half, as the kernel's word. -/
abbrev chunkW (p : Fin 8) : BitVec 32 := BitVec.ofNat 32 (16 * p.val)

/-- The rows of chunk `p` in the half the device gives away at first. -/
abbrev giveV (d : Dev nD) (p : Fin 8) : Memref sig .tc .vmem S16x256 .f32 :=
  outM.slice (Rect.unit (s := S256x256) (k0_off1 d (chunkW p)) S16x256.size (k0_off1_inb d p)) (fun _ => rfl)
/-- The rows of chunk `p` in the half the device accumulates. -/
abbrev ownV (d : Dev nD) (p : Fin 8) : Memref sig .tc .vmem S16x256 .f32 :=
  outM.slice (Rect.unit (s := S256x256) (k0_off3 d (chunkW p)) S16x256.size (k0_off3_inb d p)) (fun _ => rfl)
/-- The rectangle of the accumulated chunk `p`, as the loads and stores name it. -/
abbrev ownR (d : Dev nD) (p : Fin 8) : Rect S256x256 :=
  Rect.unit (s := S256x256) (k0_off2 d (chunkW p)) S16x256.size (k0_off2_inb d p)
/-- The landing place of chunk `p` across `x`. -/
abbrev xrsR (p : Fin 8) : Rect S8x16x256 := Rect.unit (s := S8x16x256) ![p.val, 0, 0] S1x16x256.size (inbX p)
abbrev xrsV (p : Fin 8) : Memref sig .tc .vmem S16x256 .f32 :=
  (xrsM.slice (xrsR p) (fun _ => rfl)).squeeze S16x256 squeezes_S1x16x256_S16x256
/-- The landing place of chunk `p` in stage `t` across `y` and `z`. -/
abbrev midR (p : Fin 8) (t : Fin 4) : Rect S8x4x16x256 :=
  Rect.unit (s := S8x4x16x256) ![p.val, t.val, 0, 0] S1x1x16x256.size (inbM p t)
abbrev midV (p : Fin 8) (t : Fin 4) : Memref sig .tc .vmem S16x256 .f32 :=
  (midM.slice (midR p t) (fun _ => rfl)).squeeze S16x256 squeezes_S1x1x16x256_S16x256

/-- Entry `p` of a row of eight transfer semaphores. -/
abbrev sem8 (a : DmaSems sig S8) (p : Fin 8) : DmaSem sig :=
  ((a.slice (Rect.unit (s := S8) ![p.val] S1.size (inb8 p))).squeeze S_ squeezes_S1_S_).sem
/-- Entry `(p, t)` of a table of eight by four transfer semaphores. -/
abbrev sem84 (a : DmaSems sig S8x4) (p : Fin 8) (t : Fin 4) : DmaSem sig :=
  ((a.slice (Rect.unit (s := S8x4) ![p.val, t.val] S1x1.size (inb84 p t))).squeeze S_ squeezes_S1x1_S_).sem

/-- The device across the `x` axis, and the device one of the four `y`/`z` exchanges reaches, as the kernel computes them. -/
def xDev (d : Dev nD) : Dev nD := ⟨k0_dev1 d, k0_dev1_lt d⟩
def yzDev (q : Fin 4) (d : Dev nD) : Dev nD := match q with
  | 0 => ⟨k0_dev2 d, k0_dev2_lt d⟩
  | 1 => ⟨k0_dev3 d, k0_dev3_lt d⟩
  | 2 => ⟨k0_dev4 d, k0_dev4_lt d⟩
  | 3 => ⟨k0_dev5 d, k0_dev5_lt d⟩
/-- The exchange chunk `p` uses in stage `t`: the four in turn, starting at a different one for each chunk. -/
def exch (p : Fin 8) (t : Fin 4) : Fin 4 := ⟨(p.val + t.val) % 4, Nat.mod_lt _ (by decide)⟩
abbrev midDev (p : Fin 8) (t : Fin 4) (d : Dev nD) : Dev nD := yzDev (exch p t) d

/-- The six exchanges of one chunk: across `x`, the four stages across `y` and `z`, and the return across `x`. -/
inductive Ex where
  | x | m (t : Fin 4) | a
  deriving DecidableEq

/-- The steps of one chunk: in an exchange it is sent, its sending is waited for and the partner's is received;
    after the first five exchanges what was received is added. -/
inductive St where
  | send (e : Ex) | done (e : Ex) | recv (e : Ex) | addX | addM (t : Fin 4)
  deriving DecidableEq

/-- The sum a chunk is replaced by when its counterpart from across `x` has landed. -/
def plusX (a : Vec F S16x256 .f32) (b : Vec F S1x16x256 .f32) : FVec F S16x256 .f32 :=
  addf (shapeCast S16x256 a shapeCasts_S16x256_S16x256) (shapeCast S16x256 b shapeCasts_S1x16x256_S16x256)
/-- The sum a chunk is replaced by when a partner's sum has landed. -/
def plusM (a : Vec F S16x256 .f32) (b : Vec F S1x1x16x256 .f32) : FVec F S16x256 .f32 :=
  addf (shapeCast S16x256 a shapeCasts_S16x256_S16x256) (shapeCast S16x256 b shapeCasts_S1x1x16x256_S16x256)

/-- The program of one step on chunk `p` of device `d`. -/
def act (d : Dev nD) (p : Fin 8) : St → Prog (TpuEff nD τ sig (Elt F) Λ₀ .tc) PUnit
  | .send .x => Prog.lift (.enqueueDma (giveV d p) (.remote (Dev.tc (xDev d)) (xrsV p) (.dma (sem8 cc0_scratch2 p)))
      (.dma (sem8 cc0_scratch3 p)) (View.wordExact_bits rfl) ((View.wordExact_bits rfl).reshape _ _) ⟨⟨rfl, Or.inl rfl⟩, trivial⟩)
  | .done .x => Prog.lift (.waitDma2 (sem8 cc0_scratch2 p) (xrsV p) (giveV d p) ((View.wordExact_bits rfl).reshape _ _) (View.wordExact_bits rfl))
  | .recv .x => Prog.lift (.waitDma2 (sem8 cc0_scratch3 p) (giveV d p) (xrsV p) (View.wordExact_bits rfl) ((View.wordExact_bits rfl).reshape _ _))
  | .addX => do
      let a : Vec F S16x256 .f32 ← Prog.lift (.load outM (ownR d p).toLoadRect (View.loadsAt_vmem h_S16x256))
      let b : Vec F S1x16x256 .f32 ← Prog.lift (.load xrsM (xrsR p).toLoadRect (View.loadsAt_vmem h_S1x16x256))
      let _u : Vec F S16x256 .f32 ← Prog.lift (.load outM (ownR d p).toLoadRect (View.loadsAt_vmem h_S16x256))
      Prog.lift (.store outM (ownR d p) (plusX a b) Finset.univ (View.stores_vmem_bits_univ h_S16x256 rfl) (.inl rfl))
  | .send (.m t) => Prog.lift (.enqueueDma (ownV d p) (.remote (Dev.tc (midDev p t d)) (midV p t) (.dma (sem84 cc0_scratch4 p t)))
      (.dma (sem84 cc0_scratch5 p t)) (View.wordExact_bits rfl) ((View.wordExact_bits rfl).reshape _ _) ⟨⟨rfl, Or.inl rfl⟩, trivial⟩)
  | .done (.m t) => Prog.lift (.waitDma2 (sem84 cc0_scratch4 p t) (midV p t) (ownV d p) ((View.wordExact_bits rfl).reshape _ _) (View.wordExact_bits rfl))
  | .recv (.m t) => Prog.lift (.waitDma2 (sem84 cc0_scratch5 p t) (ownV d p) (midV p t) (View.wordExact_bits rfl) ((View.wordExact_bits rfl).reshape _ _))
  | .addM t => do
      let a : Vec F S16x256 .f32 ← Prog.lift (.load outM (ownR d p).toLoadRect (View.loadsAt_vmem h_S16x256))
      let b : Vec F S1x1x16x256 .f32 ← Prog.lift (.load midM (midR p t).toLoadRect (View.loadsAt_vmem h_S1x1x16x256))
      let _u : Vec F S16x256 .f32 ← Prog.lift (.load outM (ownR d p).toLoadRect (View.loadsAt_vmem h_S16x256))
      Prog.lift (.store outM (ownR d p) (plusM a b) Finset.univ (View.stores_vmem_bits_univ h_S16x256 rfl) (.inl rfl))
  | .send .a => Prog.lift (.enqueueDma (ownV d p) (.remote (Dev.tc (xDev d)) (ownV d p) (.dma (sem8 cc0_scratch6 p)))
      (.dma (sem8 cc0_scratch7 p)) (View.wordExact_bits rfl) (View.wordExact_bits rfl) ⟨⟨rfl, Or.inl rfl⟩, trivial⟩)
  | .done .a => Prog.lift (.waitDma2 (sem8 cc0_scratch6 p) (ownV d p) (ownV d p) (View.wordExact_bits rfl) (View.wordExact_bits rfl))
  | .recv .a => Prog.lift (.waitDma2 (sem8 cc0_scratch7 p) (ownV d p) (ownV d p) (View.wordExact_bits rfl) (View.wordExact_bits rfl))

/-- The runtime's barrier semaphore. -/
abbrev barS : Sem sig := sig.barrier 0 rfl

/-- A list of steps on chunks, in order. -/
def steps (d : Dev nD) : List (Fin 8 × St) → Prog (TpuEff nD τ sig (Elt F) Λ₀ .tc) PUnit
  | [] => pure ⟨⟩
  | s :: l => act d s.1 s.2 >>= fun _ => steps d l

/-- The eight chunks in turn, each taking the steps `f`. -/
def sweep (f : List St) : List (Fin 8 × St) := (List.finRange 8).flatMap fun p => f.map fun s => (p, s)

/-- The order the body takes the steps in: one sweep over the chunks for each exchange. -/
def order : List (Fin 8 × St) :=
  sweep [.send .x] ++ sweep [.done .x, .recv .x, .addX, .send (.m 0)] ++ sweep [.done (.m 0), .recv (.m 0), .addM 0, .send (.m 1)]
    ++ sweep [.done (.m 1), .recv (.m 1), .addM 1, .send (.m 2)] ++ sweep [.done (.m 2), .recv (.m 2), .addM 2, .send (.m 3)]
    ++ sweep [.done (.m 3), .recv (.m 3), .addM 3, .send .a] ++ sweep [.done .a, .recv .a]

/-- What comes before the steps: a signal to each of the five partners, the device's block copied to the result
    buffer, and the wait for the five partners' signals. -/
def prelude (d : Dev nD) (k : Prog (TpuEff nD τ sig (Elt F) Λ₀ .tc) PUnit) : Prog (TpuEff nD τ sig (Elt F) Λ₀ .tc) PUnit := do
  semSignalWord (xDev d) barS 1#32
  semSignalWord (yzDev 0 d) barS 1#32
  semSignalWord (yzDev 1 d) barS 1#32
  semSignalWord (yzDev 2 d) barS 1#32
  semSignalWord (yzDev 3 d) barS 1#32
  let x : Vec F S1x1x1x256x256 .f32 ← Prog.lift (.load inM (Rect.unit (s := S1x1x1x256x256) ![0, 0, 0, 0, 0] S1x1x1x256x256.size inb_S1x1x1x256x256_S1x1x1x256x256_0_0_0_0_0).toLoadRect (View.loadsAt_vmem h_S1x1x1x256x256))
  let _u : Vec F S256x256 .f32 ← Prog.lift (.load outM (Rect.unit (s := S256x256) ![0, 0] S256x256.size inb_S256x256_S256x256_0_0).toLoadRect (View.loadsAt_vmem h_S256x256))
  Prog.lift (.store outM (Rect.unit (s := S256x256) ![0, 0] S256x256.size inb_S256x256_S256x256_0_0) (k0_pay1 x) Finset.univ (View.stores_vmem_bits_univ h_S256x256 rfl) (.inl rfl))
  semWaitWord barS 5#32
  k

set_option maxRecDepth 65536 in
set_option maxHeartbeats 4000000 in
/-- The printed body is the prelude and the steps in order. -/
theorem body_eq :
    cc0_body (F := F) inM (Memref.isWhole_whole _) outM (Memref.isWhole_whole _) xrsM (Memref.isWhole_whole _) midM (Memref.isWhole_whole _)
        cc0_scratch2 cc0_scratch3 cc0_scratch4 cc0_scratch5 cc0_scratch6 cc0_scratch7
      = .op .deviceId (fun d => prelude d (steps d order)) := by
  rfl

end Cert.KernelIdeal.Cube

end
-- ==== Proof.KernelIdeal.Places.lean ====
/-
# Devices, rows and semaphores

What the kernel's words come to: its partner devices are their own partners' partners, the rows a device gives
away across `x` are the rows its partner accumulates, and the ninety-six transfer semaphores are numbered by the
chunk, the side of the transfer (its sender's or its receiver's) and the exchange.
-/
module

public import proofs.«01_k».proof.Proof.KernelIdeal.Steps

@[expose] public section

noncomputable section

namespace Cert.KernelIdeal.Cube

open Idealize.ShloMosaic Idealize.ShloMosaic.TcCoe
open Idealize.SL Idealize.SL.Sem
open Cert.KernelIdeal Cert.KernelIdeal.Gen

variable {F : FTy → Type} [FloatOps F]

instance : Fintype Ex := ⟨{.x, .m 0, .m 1, .m 2, .m 3, .a}, fun e => by
  rcases e with _ | t | _
  · decide
  · revert t; decide
  · decide⟩

/-! ## Devices -/

theorem xDev_xDev (d : Dev nD) : xDev (xDev d) = d := by revert d; decide +kernel
theorem yzDev_yzDev (q : Fin 4) (d : Dev nD) : yzDev q (yzDev q d) = d := by revert q d; decide +kernel
theorem midDev_midDev (p : Fin 8) (t : Fin 4) (d : Dev nD) : midDev p t (midDev p t d) = d := yzDev_yzDev _ d

/-- The device an exchange of a chunk is with. -/
def peer (p : Fin 8) (e : Ex) (d : Dev nD) : Dev nD := match e with
  | .x => xDev d
  | .m t => midDev p t d
  | .a => xDev d

theorem peer_peer (p : Fin 8) (e : Ex) (d : Dev nD) : peer p e (peer p e d) = d := by
  rcases e with _ | t | _
  · exact xDev_xDev d
  · exact midDev_midDev p t d
  · exact xDev_xDev d

/-- An exchange as a permutation of the devices. -/
def peerEquiv (p : Fin 8) (e : Ex) : Dev nD ≃ Dev nD := ⟨peer p e, peer p e, peer_peer p e, peer_peer p e⟩

/-- The five partners a device signals at the start: across `x`, then the four across `y` and `z`. -/
def pal (d : Fin 5) (c : Dev nD) : Dev nD := match d with
  | 0 => xDev c
  | 1 => yzDev 0 c
  | 2 => yzDev 1 c
  | 3 => yzDev 2 c
  | 4 => yzDev 3 c

theorem pal_pal (d : Fin 5) (c : Dev nD) : pal d (pal d c) = c := by revert d c; decide +kernel
def palEquiv (d : Fin 5) : Dev nD ≃ Dev nD := ⟨pal d, pal d, pal_pal d, pal_pal d⟩

/-! ## Rows -/

theorem off2_eq (d : Dev nD) (p : Fin 8) : k0_off2 d (chunkW p) = k0_off3 d (chunkW p) := by revert d p; decide +kernel
theorem off1_xDev (d : Dev nD) (p : Fin 8) : k0_off1 (xDev d) (chunkW p) = k0_off3 d (chunkW p) := by revert d p; decide +kernel

/-- Sixteen rows of the result buffer, named by their offset: offsets that are equal name the same rows. -/
theorem rows_congr {o o' : Fin 2 → ℕ} (h : o = o') (hi : ∀ a, o a + S16x256.size a ≤ S256x256.size a)
    (hi' : ∀ a, o' a + S16x256.size a ≤ S256x256.size a) :
    outM.slice (Rect.unit (s := S256x256) o S16x256.size hi) (fun _ => rfl)
      = outM.slice (Rect.unit (s := S256x256) o' S16x256.size hi') (fun _ => rfl) := by
  subst h; rfl

/-- The rows the device across `x` gives away are the rows this device accumulates. -/
theorem giveV_xDev (d : Dev nD) (p : Fin 8) : giveV (xDev d) p = ownV d p := rows_congr (off1_xDev d p) _ _
/-- The rows the device across `x` accumulates are the rows this device gives away. -/
theorem ownV_xDev (d : Dev nD) (p : Fin 8) : ownV (xDev d) p = giveV d p := by
  rw [← giveV_xDev, xDev_xDev]

/-- The rectangle the loads and stores name covers the chunk's rows. -/
theorem access_own (d : Dev nD) (p : Fin 8) : outM.access (ownR d p) = (ownV d p).view :=
  congrArg Memref.view (rows_congr (off2_eq d p) (k0_off2_inb d p) (k0_off3_inb d p))

/-- What the rectangle of a landing place reads, cast to a chunk's shape, is what the landing place reads. -/
theorem cast_xrs (p : Fin 8) (f : (cc0_scratch0 : Ref sig .tc).ty.Contents (Elt F)) :
    shapeCast S16x256 ((xrsM.access (xrsR p)).read (Elt F) f) shapeCasts_S1x16x256_S16x256 = (xrsV p).view.read (Elt F) f := rfl
theorem cast_mid (p : Fin 8) (t : Fin 4) (f : (cc0_scratch1 : Ref sig .tc).ty.Contents (Elt F)) :
    shapeCast S16x256 ((midM.access (midR p t)).read (Elt F) f) shapeCasts_S1x1x16x256_S16x256 = (midV p t).view.read (Elt F) f := rfl

/-! ## Semaphores -/

/-- The number, among the kernel's transfer semaphores, of chunk `p`'s in an exchange: the sender's (`false`) or the receiver's (`true`). -/
def dix (p : Fin 8) (b : Bool) (e : Ex) : ℕ := match b, e with
  | false, .x => p.val
  | true, .x => 8 + p.val
  | false, .m t => 16 + 4 * p.val + t.val
  | true, .m t => 48 + 4 * p.val + t.val
  | false, .a => 80 + p.val
  | true, .a => 88 + p.val

theorem dix_lt (p : Fin 8) (b : Bool) (e : Ex) : dix p b e < 96 := by revert p b e; decide +kernel

/-- What names a transfer semaphore of a device. -/
abbrev Wx : Type := Fin 8 × Bool × Ex

/-- The semaphore so named: the pipeline's two come first. -/
def dsem (w : Wx) : DmaSem sig := ⟨dix w.1 w.2.1 w.2.2 + 2, Nat.add_lt_add_right (dix_lt _ _ _) 2⟩

/-- The name of a semaphore by its number; the pipeline's two have none. -/
def named (j : DmaSem sig) : Option Wx :=
  if j.val < 2 then none
  else if h : j.val - 2 < 16 then some (⟨(j.val - 2) % 8, Nat.mod_lt _ (by decide)⟩, decide (8 ≤ j.val - 2), .x)
  else if h : j.val - 18 < 64 then
    some (⟨(j.val - 18) / 4 % 8, Nat.mod_lt _ (by decide)⟩, decide (32 ≤ j.val - 18), .m ⟨(j.val - 18) % 4, Nat.mod_lt _ (by decide)⟩)
  else some (⟨(j.val - 82) % 8, Nat.mod_lt _ (by decide)⟩, decide (8 ≤ j.val - 82), .a)

theorem named_dsem (w : Wx) : named (dsem w) = some w := by revert w; decide +kernel

theorem dsem_injective : Function.Injective dsem := fun w w' h => by
  have := congrArg named h
  rw [named_dsem, named_dsem] at this
  exact Option.some.inj this

theorem sem_scratch2 (p : Fin 8) : sem8 cc0_scratch2 p = dsem (p, false, .x) := by revert p; decide +kernel
theorem sem_scratch3 (p : Fin 8) : sem8 cc0_scratch3 p = dsem (p, true, .x) := by revert p; decide +kernel
theorem sem_scratch4 (p : Fin 8) (t : Fin 4) : sem84 cc0_scratch4 p t = dsem (p, false, .m t) := by revert p t; decide +kernel
theorem sem_scratch5 (p : Fin 8) (t : Fin 4) : sem84 cc0_scratch5 p t = dsem (p, true, .m t) := by revert p t; decide +kernel
theorem sem_scratch6 (p : Fin 8) : sem8 cc0_scratch6 p = dsem (p, false, .a) := by revert p; decide +kernel
theorem sem_scratch7 (p : Fin 8) : sem8 cc0_scratch7 p = dsem (p, true, .a) := by revert p; decide +kernel

/-! ## The order of the steps -/

/-- The step that follows a step of a chunk. -/
def next : St → Option St
  | .send e => some (.done e)
  | .done e => some (.recv e)
  | .recv .x => some .addX
  | .recv (.m t) => some (.addM t)
  | .recv .a => none
  | .addX => some (.send (.m 0))
  | .addM t => if h : t.val < 3 then some (.send (.m ⟨t.val + 1, by omega⟩)) else some (.send .a)

/-- The rank of an exchange: what is received in a later exchange ranks higher. -/
def rank : Ex → ℕ
  | .x => 2
  | .m t => 3 + t.val
  | .a => 7

/-- The rank a wait must stay below in the transfers its device has still to make. -/
def bound : St → ℕ
  | .recv e => rank e
  | _ => 0

/-- The first step of a chunk in a list. -/
def head (p : Fin 8) (l : List (Fin 8 × St)) : Option St := (l.find? fun x => x.1 = p).map Prod.snd

/-- A list of steps is in order: after each step, the next one of its chunk is the one that follows it, and the transfers
    still to be made rank above what the step waits for. -/
def InOrder : List (Fin 8 × St) → Prop
  | [] => True
  | x :: l => head x.1 l = next x.2 ∧ (∀ y ∈ l, ∀ e, y.2 = .send e → bound x.2 < rank e) ∧ InOrder l

instance decInOrder : ∀ l, Decidable (InOrder l)
  | [] => isTrue trivial
  | x :: l => @instDecidableAnd _ _ _ (@instDecidableAnd _ _ _ (decInOrder l))

theorem order_inOrder : InOrder order := by decide +kernel
theorem head_order (p : Fin 8) : head p order = some (.send .x) := by revert p; decide +kernel
theorem order_nodup : order.Nodup := by decide +kernel

/-- The steps of one chunk, in order. -/
def chain : List St :=
  [.send .x, .done .x, .recv .x, .addX, .send (.m 0), .done (.m 0), .recv (.m 0), .addM 0, .send (.m 1), .done (.m 1), .recv (.m 1), .addM 1,
    .send (.m 2), .done (.m 2), .recv (.m 2), .addM 2, .send (.m 3), .done (.m 3), .recv (.m 3), .addM 3, .send .a, .done .a, .recv .a]

theorem mem_chain (s : St) : s ∈ chain := by
  rcases s with e | e | e | _ | t
  · revert e; decide
  · revert e; decide
  · revert e; decide
  · decide
  · revert t; decide

instance : Fintype St := ⟨⟨chain, by decide⟩, mem_chain⟩

theorem mem_order (x : Fin 8 × St) : x ∈ order := by revert x; decide +kernel

end Cert.KernelIdeal.Cube

end
-- ==== Proof.KernelIdeal.Proto.lean ====
/-
# The protocol

Every semaphore of a device is a cell with one round. The barrier's cell expects one unit from each of the five
partners, and each partner's unit hands over the landing places it will be written through. A transfer's two cells
expect the transfer's credit: the sender's cell hands back the rows that were sent, the receiver's the rows that landed, with
what they then hold. The transfer across `x` is different in one point: the sender does not get its rows back; they
travel along to the receiver, who will write the finished chunk into them at the end.

The contents are stated from `X`, the block each device starts with.
-/
module

public import proofs.«01_k».proof.Proof.KernelIdeal.Places
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state; beside it stands the pipeline library's own. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev cell (c : Dev nD) (w : Wx) : GSem nD τ sig := ((c : Thread nD τ), .dma (dsem w))
abbrev barCell (c : Dev nD) : GSem nD τ sig := ((c : Thread nD τ), .reg barS)

/-- A device's cells: the barrier's (`none`) and those of the ninety-six transfer semaphores. -/
abbrev Cx : Type := Option Wx
abbrev csem (k : Cx) : SemLoc sig := match k with
  | none => .reg barS
  | some w => .dma (dsem w)
abbrev kcell (ck : Dev nD × Cx) : GSem nD τ sig := ((ck.1 : Thread nD τ), csem ck.2)

/-- The credit of a transfer of one chunk. -/
abbrev N : ℕ := (xrsV 0).view.dmaCredit
theorem N_pos : 0 < N := View.dmaCredit_pos _ (by decide)

/-! ## Contents -/

variable (X : Dev nD → Vec F S256x256 .f32)

/-- The chunk's rows of a device's own block, in the half it accumulates and in the half it gives away. -/
def own0 (c : Dev nD) (p : Fin 8) : Vec F S16x256 .f32 := (ownV c p).view.read (Elt F) (X c)
def give0 (c : Dev nD) (p : Fin 8) : Vec F S16x256 .f32 := (giveV c p).view.read (Elt F) (X c)

/-- What chunk `p` of device `c` holds after the exchange across `x` and `n` of the four across `y` and `z`. -/
def acc : ℕ → Dev nD → Fin 8 → Vec F S16x256 .f32
  | 0, c, p => addf (own0 X c p) (give0 X (xDev c) p)
  | n + 1, c, p => addf (acc n c p) (acc n (midDev p ⟨n % 4, Nat.mod_lt _ (by decide)⟩ c) p)

theorem acc_succ (t : Fin 4) (c : Dev nD) (p : Fin 8) : acc X (t.val + 1) c p = addf (acc X t.val c p) (acc X t.val (midDev p t c) p) := by
  have : (⟨t.val % 4, Nat.mod_lt _ (by decide)⟩ : Fin 4) = t := Fin.ext (Nat.mod_eq_of_lt t.isLt)
  show addf _ (acc X t.val (midDev p ⟨t.val % 4, _⟩ c) p) = _
  rw [this]

/-- Device `c` holds the chunk-sized memref `M`, which reads `v`. -/
def holds (c : Dev nD) (M : Memref sig .tc .vmem S16x256 .f32) (v : Vec F S16x256 .f32) : sProp 𝕄 :=
  iprop(∃ f : Buf (Elt F) (M.view.loc (c : Thread nD τ)), ⌜M.view.read (Elt F) f = v⌝ ∗ (M.view.loc (c : Thread nD τ) ↦[M.view.set]{fullShare} f))
/-- Device `c` holds the memref `M`, whatever it reads. -/
def anyAt (c : Dev nD) (M : Memref sig .tc .vmem S16x256 .f32) : sProp 𝕄 :=
  iprop(∃ f : Buf (Elt F) (M.view.loc (c : Thread nD τ)), (M.view.loc (c : Thread nD τ) ↦[M.view.set]{fullShare} f))

omit [FloatOps F] in
instance holds_storable (c : Dev nD) (M) (v) : BI.Storable (upEmb : UEmb _ 𝕄) (holds (F := F) c M v) := by unfold holds; infer_instance
omit [FloatOps F] in
instance anyAt_storable (c : Dev nD) (M) : BI.Storable (upEmb : UEmb _ 𝕄) (anyAt (F := F) c M) := by unfold anyAt; infer_instance

omit [FloatOps F] in
theorem holds_any (c : Dev nD) (M : Memref sig .tc .vmem S16x256 .f32) (v : Vec F S16x256 .f32) : holds c M v ⊢ anyAt c M := by
  unfold holds anyAt
  iintro ⟨%f, -, H⟩
  iexists f; iexact H

/-! ## The schedule -/

/-- The stage in which chunk `p` uses the exchange `q`. -/
def stageOf (p : Fin 8) (q : Fin 4) : Fin 4 := ⟨(q.val + 8 - p.val) % 4, Nat.mod_lt _ (by decide)⟩

/-- The landing place for chunk `p` that the partner `d` of a device will write through: on the device `c`. -/
def land (d : Fin 5) (c : Dev nD) (p : Fin 8) : sProp 𝕄 := match d with
  | 0 => anyAt c (xrsV p)
  | 1 => anyAt c (midV p (stageOf p 0))
  | 2 => anyAt c (midV p (stageOf p 1))
  | 3 => anyAt c (midV p (stageOf p 2))
  | 4 => anyAt c (midV p (stageOf p 3))

omit [FloatOps F] in
instance land_storable (d : Fin 5) (c : Dev nD) (p : Fin 8) : BI.Storable (upEmb : UEmb _ 𝕄) (land (F := F) d c p) := by
  unfold land; split <;> infer_instance

/-- What the partner `d`'s signal hands device `c`: that partner's landing places for it. -/
def barPay (c : Dev nD) (d : Fin 5) : sProp 𝕄 := bigSep Finset.univ fun p : Fin 8 => land d (pal d c) p

/-- What a transfer's cell hands its device `c`: the sender's (`false`) and the receiver's (`true`). -/
def pay (c : Dev nD) (p : Fin 8) (b : Bool) (e : Ex) : sProp 𝕄 := match b, e with
  | false, .x => iprop(emp)
  | false, .m t => holds c (ownV c p) (acc X t.val c p)
  | false, .a => holds c (ownV c p) (acc X 4 c p)
  | true, .x => iprop(holds c (xrsV p) (give0 X (xDev c) p) ∗ anyAt (xDev c) (ownV c p))
  | true, .m t => holds c (midV p t) (acc X t.val (midDev p t c) p)
  | true, .a => holds c (giveV c p) (acc X 4 (xDev c) p)

instance pay_storable (c : Dev nD) (p : Fin 8) (b : Bool) (e : Ex) : BI.Storable (upEmb : UEmb _ 𝕄) (pay X c p b e) := by
  unfold pay; split <;> infer_instance

def Rd : Rounds.Schedule (GSem nD τ sig) (Fin 5) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma j => match named j with
      | none => iprop(emp)
      | some w => pay X g.1.1 w.1 w.2.1 w.2.2
  amount_pos g _ _ _ := by
    rcases g with ⟨_, _ | _⟩
    · exact Nat.one_pos
    · exact N_pos

instance Rd_payload_storable (g : GSem nD τ sig) (r : ℕ) (d : Fin 5) : BI.Storable (upEmb : UEmb _ 𝕄) ((Rd X).payload g r d) := by
  rcases g with ⟨c, s | j⟩
  · show BI.Storable upEmb (barPay c.1 d)
    unfold barPay; infer_instance
  · show BI.Storable upEmb (match named j with | none => iprop(emp) | some w => pay X c.1 w.1 w.2.1 w.2.2)
    split <;> infer_instance

section Sched
variable (c : Dev nD) (w : Wx)

theorem duties_bar : (Rd X).duties (barCell c) 0 = Finset.univ := rfl
theorem duties_cell : (Rd X).duties (cell c w) 0 = {0} := rfl
theorem duties_later (g : GSem nD τ sig) : ∀ r, 1 ≤ r → (Rd X).duties g r = ∅ := fun r hr => if_neg (by omega)
theorem amount_bar (d : Fin 5) : (Rd X).amount (barCell c) 0 d = 1 := rfl
theorem amount_cell (d : Fin 5) : (Rd X).amount (cell c w) 0 d = N := rfl
theorem expect_bar : (Rd X).expect (barCell c) 0 = 5 := by
  unfold Schedule.expect Schedule.amountOf
  rw [duties_bar, Finset.sum_congr rfl fun d _ => amount_bar X c d, Finset.sum_const, Finset.card_univ, Fintype.card_fin, smul_eq_mul]
theorem expect_cell : (Rd X).expect (cell c w) 0 = N := by
  unfold Schedule.expect Schedule.amountOf; rw [duties_cell, Finset.sum_singleton, amount_cell]
theorem payload_bar (d : Fin 5) : (Rd X).payload (barCell c) 0 d = barPay c d := rfl
theorem payload_cell (d : Fin 5) : (Rd X).payload (cell c w) 0 d = pay X c w.1 w.2.1 w.2.2 := by
  show (match named (dsem w) with | none => iprop(emp) | some w => pay X c w.1 w.2.1 w.2.2) = _
  rw [named_dsem]
theorem rest_bar : bigSep ((Rd X).duties (barCell c) 0 \ ∅) (fun d => (Rd X).payload (barCell c) 0 d) = bigSep Finset.univ (barPay (F := F) c) := by
  rw [Finset.sdiff_empty, duties_bar]; rfl
theorem rest_cell : bigSep ((Rd X).duties (cell c w) 0 \ ∅) (fun d => (Rd X).payload (cell c w) 0 d) = pay X c w.1 w.2.1 w.2.2 := by
  rw [Finset.sdiff_empty, duties_cell, bigSep_singleton, payload_cell]

end Sched

/-! ## What a device owes, and the levels -/

/-- What a step's transfer credits on its receiver. -/
def tal (c : Dev nD) (x : Fin 8 × St) : CellTallies nD τ sig Unit := match x.2 with
  | .send e => tallyAt (cell (peer x.1 e c) (x.1, true, e)) () N
  | _ => 0

/-- What the transfers of a list of steps credit. -/
def owed (c : Dev nD) (l : List (Fin 8 × St)) : CellTallies nD τ sig Unit := (l.map (tal c)).sum

theorem owed_cons (c : Dev nD) (x : Fin 8 × St) (l : List (Fin 8 × St)) : owed c (x :: l) = owed c l + tal c x := by
  unfold owed; rw [List.map_cons, List.sum_cons, add_comm]
theorem owed_send (c : Dev nD) (p : Fin 8) (e : Ex) (l : List (Fin 8 × St)) :
    owed c ((p, .send e) :: l) = owed c l + tallyAt (cell (peer p e c) (p, true, e)) () N := owed_cons c _ l
theorem owed_rest (c : Dev nD) (x : Fin 8 × St) (l : List (Fin 8 × St)) (h : tal c x = 0) : owed c (x :: l) = owed c l := by
  rw [owed_cons, h, add_zero]

/-- What a device owes at the launch: its transfers' credits, and a unit to each of its five partners' barriers. -/
def O₀ (c : Dev nD) : CellTallies nD τ sig Unit :=
  owed c order + tallyAt (barCell (pal 4 c)) () 1 + tallyAt (barCell (pal 3 c)) () 1 + tallyAt (barCell (pal 2 c)) () 1
    + tallyAt (barCell (pal 1 c)) () 1 + tallyAt (barCell (pal 0 c)) () 1

def L (g : GSem nD τ sig) : Finset Unit := if g.1.2 = .tc then {()} else ∅
/-- The level of a cell: a barrier's is one, a receiver's the exchange's rank, any other's zero. -/
def lv (g : GSem nD τ sig) (_ : Unit) : ℕ := match g.2 with
  | .reg _ => 1
  | .dma j => match named j with
    | some (_, true, e) => rank e
    | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _
theorem lv_bar (c : Dev nD) : lv (barCell c) () = 1 := rfl
theorem lv_recv (c : Dev nD) (p : Fin 8) (e : Ex) : lv (cell c (p, true, e)) () = rank e := by
  show (match named (dsem (p, true, e)) with | some (_, true, e) => rank e | _ => 0) = _
  rw [named_dsem]
theorem lv_send (c : Dev nD) (p : Fin 8) (e : Ex) : lv (cell c (p, false, e)) () = 0 := by
  show (match named (dsem (p, false, e)) with | some (_, true, e) => rank e | _ => 0) = _
  rw [named_dsem]
theorem rank_ge (e : Ex) : 2 ≤ rank e := by revert e; decide

/-- A tally at one cell owes there only. -/
theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- What a list of steps owes, it owes to a receiver of one of its transfers. -/
theorem owed_pos {c : Dev nD} {l : List (Fin 8 × St)} {g : GSem nD τ sig} {u : Unit} (h : 0 < owed c l g u) :
    ∃ p e, (p, St.send e) ∈ l ∧ g = cell (peer p e c) (p, true, e) := by
  induction l with
  | nil => exact absurd h (Nat.lt_irrefl 0)
  | cons x l ih =>
    rw [owed_cons, Pi.add_apply, Finsupp.add_apply] at h
    rcases Nat.eq_zero_or_pos (owed c l g u) with h0 | h0
    · rw [h0, Nat.zero_add] at h
      rcases x with ⟨p, e | _ | _ | _ | _⟩
      · exact ⟨p, e, List.mem_cons_self, tallyAt_pos h⟩
      all_goals exact absurd h (Nat.lt_irrefl 0)
    · obtain ⟨p, e, hm, he⟩ := ih h0
      exact ⟨p, e, List.mem_cons_of_mem _ hm, he⟩

/-- The levels allow a wait below every transfer that is still to be made. -/
theorem mayWait_owed (c : Dev nD) (sm : SemLoc sig) (l : List (Fin 8 × St)) (b : ℕ) (hb : lv ((c : Thread nD τ), sm) () ≤ b)
    (hl : ∀ y ∈ l, ∀ e, y.2 = .send e → b < rank e) :
    (levAts L lv : sProp 𝕄) ⊢ MayWait (c : Thread nD τ) sm () (owed c l) :=
  MayOwe.of_cut (L := L) (lev := lv) b (fun q hq => by rw [Finset.mem_singleton.mp hq]; exact mem_L _ _)
    (fun g u hg => by obtain ⟨p, e, -, rfl⟩ := owed_pos hg; exact mem_L _ _)
    (fun q hq => by rw [Finset.mem_singleton.mp hq]; exact hb)
    (fun g u hg => by obtain ⟨p, e, hm, rfl⟩ := owed_pos hg; rw [lv_recv]; exact hl _ hm e rfl)

/-- What a device owes at the launch is owed to a barrier or to a receiver. -/
theorem O₀_pos {c : Dev nD} {g : GSem nD τ sig} {u : Unit} (h : 0 < O₀ c g u) :
    (∃ d, g = barCell d) ∨ ∃ d p e, g = cell d (p, true, e) := by
  unfold O₀ at h
  simp only [Pi.add_apply, Finsupp.add_apply] at h
  by_contra hn
  rw [not_or] at hn
  have hb : ∀ d, (tallyAt (barCell d) () 1 : CellTallies nD τ sig Unit) g u = 0 := fun d => by
    rcases Nat.eq_zero_or_pos ((tallyAt (barCell d) () 1 : CellTallies nD τ sig Unit) g u) with h0 | h0
    · exact h0
    · exact absurd ⟨d, tallyAt_pos h0⟩ hn.1
  rw [hb, hb, hb, hb, hb] at h
  obtain ⟨p, e, -, he⟩ := owed_pos (show 0 < owed c order g u by omega)
  exact hn.2 ⟨_, p, e, he⟩

/-- The pipeline's own waits are below everything owed. -/
theorem mayWait_stage (c : Dev nD) (q : DmaSem sig) (hq : named q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _)
      (fun g u hg => by rcases O₀_pos hg with ⟨d, rfl⟩ | ⟨d, p, e, rfl⟩ <;> exact mem_L _ _)
      (fun p hp => by
        rw [Finset.mem_singleton.mp hp]
        show (match named q with | some (_, true, e) => rank e | _ => 0) ≤ 0
        rw [hq])
      (fun g u hg => by
        rcases O₀_pos hg with ⟨d, rfl⟩ | ⟨d, p, e, rfl⟩
        · rw [lv_bar]; decide
        · rw [lv_recv]; exact Nat.lt_of_lt_of_le (by decide) (rank_ge e))
  · rw [MayWait_zero]; iintro -; iempintro

/-! ## What every device knows -/

/-- Every cell's invariant, at the names `K`, and that every cell has reached its round. -/
def recs (K : Dev nD × Cx → ℕ) : sProp 𝕄 :=
  iprop((bigSep Finset.univ fun ck => cellInv ER (Rd X) (K ck) (kcell ck)) ∗ bigSep Finset.univ fun ck : Dev nD × Cx => reached ER (kcell ck) 0)

instance recs_persistent (K : Dev nD × Cx → ℕ) : BI.Persistent (recs X K) := by unfold recs; infer_instance

theorem recs_inv (K : Dev nD × Cx → ℕ) (c : Dev nD) (k : Cx) : recs X K ⊢ cellInv ER (Rd X) (K (c, k)) (kcell (c, k)) := by
  unfold recs
  exact ((BI.sep_and).trans BI.and_elimL).trans (bigSep_elim (Finset.mem_univ (c, k)))
theorem recs_reached (K : Dev nD × Cx → ℕ) (c : Dev nD) (k : Cx) : recs X K ⊢ reached ER (kcell (c, k)) 0 := by
  unfold recs
  exact ((BI.sep_and).trans BI.and_elimR).trans (bigSep_elim (Finset.mem_univ (c, k)))

end Cert.KernelIdeal.Cube

end
-- ==== Proof.KernelIdeal.Moves.lean ====
/-
# One step of one chunk

For every step, what it takes (`pre`: what is set aside for this step alone, `flow`: what the chunk carries from one step to
the next) and what it leaves (`post`), and the proof that the step's program does so. There are three kinds of step: a
transfer, a wait, and an addition.
-/
module

public import proofs.«01_k».proof.Proof.KernelIdeal.Proto

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S256x256 .f32)

/-! ## What a step takes and leaves -/

/-- Device `c` owes `O`, whatever it has waited for. -/
def owesE (c : Dev nD) (O : CellTallies nD τ sig Unit) : sProp 𝕄 := iprop(∃ W, owes (c : Thread nD τ) O W)

/-- The landing place a transfer is written through, and for the one across `x` the rows given away. -/
def fuel (c : Dev nD) (p : Fin 8) : Ex → sProp 𝕄
  | .x => iprop(anyAt (xDev c) (xrsV p) ∗ holds c (giveV c p) (give0 X c p))
  | .m t => anyAt (midDev p t c) (midV p t)
  | .a => iprop(emp)

/-- What is set aside for a step. -/
def pre (c : Dev nD) (p : Fin 8) : St → sProp 𝕄
  | .send e => iprop(dutyTok ER (cell c (p, false, e)) 0 0 ∗ dutyTok ER (cell (peer p e c) (p, true, e)) 0 0 ∗ fuel X c p e)
  | .done e => atPos ER (cell c (p, false, e)) 0 ∅ 0
  | .recv e => iprop(atPos ER (cell c (p, true, e)) 0 ∅ 0 ∗ cred (tallyAt (cell c (p, true, e)) () N))
  | .addX => iprop(emp)
  | .addM _ => iprop(emp)

/-- What stays when a step is over: the closed semaphores, the landing places, and at last the rows that came back. -/
def post (c : Dev nD) (p : Fin 8) : St → sProp 𝕄
  | .send _ => iprop(emp)
  | .done e => semVal (cell c (p, false, e)) 0
  | .recv .x => semVal (cell c (p, true, .x)) 0
  | .recv (.m t) => semVal (cell c (p, true, .m t)) 0
  | .recv .a => iprop(semVal (cell c (p, true, .a)) 0 ∗ holds c (giveV c p) (acc X 4 (xDev c) p))
  | .addX => anyAt c (xrsV p)
  | .addM t => anyAt c (midV p t)

/-- What a chunk carries into a step. -/
def flow (c : Dev nD) (p : Fin 8) : Option St → sProp 𝕄
  | some (.send .x) => holds c (ownV c p) (own0 X c p)
  | some (.done .x) => iprop(holds c (ownV c p) (own0 X c p) ∗ cred (tallyAt (cell c (p, false, .x)) () N))
  | some (.recv .x) => holds c (ownV c p) (own0 X c p)
  | some .addX => iprop(holds c (ownV c p) (own0 X c p) ∗ holds c (xrsV p) (give0 X (xDev c) p) ∗ anyAt (xDev c) (ownV c p))
  | some (.send (.m t)) => iprop(holds c (ownV c p) (acc X t.val c p) ∗ anyAt (xDev c) (ownV c p))
  | some (.done (.m t)) => iprop(cred (tallyAt (cell c (p, false, .m t)) () N) ∗ anyAt (xDev c) (ownV c p))
  | some (.recv (.m t)) => iprop(holds c (ownV c p) (acc X t.val c p) ∗ anyAt (xDev c) (ownV c p))
  | some (.addM t) => iprop(holds c (ownV c p) (acc X t.val c p) ∗ holds c (midV p t) (acc X t.val (midDev p t c) p) ∗ anyAt (xDev c) (ownV c p))
  | some (.send .a) => iprop(holds c (ownV c p) (acc X 4 c p) ∗ anyAt (xDev c) (ownV c p))
  | some (.done .a) => cred (tallyAt (cell c (p, false, .a)) () N)
  | some (.recv .a) => holds c (ownV c p) (acc X 4 c p)
  | none => holds c (ownV c p) (acc X 4 c p)

/-! ## The three kinds -/

section Kinds

variable (K : Dev nD × Cx → ℕ)

/-- A wait on a transfer's semaphore: its payload, and the semaphore closed at zero. -/
theorem wp_take (c : Dev nD) (w : Wx) (j : DmaSem sig) (hj : j = dsem w) (src dst : Memref sig .tc .vmem S16x256 .f32)
    {h₁ : src.view.WordExact} {h₂ : dst.view.WordExact} (hN : dst.view.dmaCredit = N) (l : List (Fin 8 × St))
    {α : Type} {Q : α → sProp 𝕄} {k : PUnit → Prog (TpuEff nD τ sig (Elt F) Λ₀ .tc) α}
    (b : ℕ) (hb : lv (cell c w) () ≤ b) (hl : ∀ y ∈ l, ∀ e, y.2 = .send e → b < rank e) :
    iprop(recs X K ∗ levAts L lv ∗ cred (tallyAt (cell c w) () N) ∗ owesE c (owed c l) ∗ atPos ER (cell c w) 0 ∅ 0)
      ⊢ iprop(((owesE c (owed c l) ∗ semVal (cell c w) 0 ∗ pay X c w.1 w.2.1 w.2.2) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 j src dst h₁ h₂) k) Q) := by
  subst hj
  iintro ⟨#HR, #Hlev, Hc, Ho, Hat⟩ Hk
  unfold owesE
  icases Ho with ⟨%W, HO⟩
  ihave #HI := (recs_inv X K c (some w)) $$ HR
  iapply (Rounds.wp_wait_rest_token 𝒱₀ ER (Rd X) (c : Thread nD τ) none (κ := K (c, some w)) (k' := N)
      (fun K' => (wpE_waitDma2_eq 𝒱₀ (c : Thread nD τ) none Set.univ K').trans (by rw [hN])) (Set.mem_univ _) () (O := owed c l) (W := W) (R := 0) (m := 0) (T := ∅)
      (by rw [Nat.zero_add]; exact (expect_cell X c w).symm)) $$ [Hc HO Hat]
  · isplitr; · iexact HI
    isplitl [Hc]; · iexact Hc
    isplitl [HO]; · iexact HO
    isplitr; · iapply (mayWait_owed c (.dma (dsem w)) l b hb hl); iexact Hlev
    iexact Hat
  iintro ⟨HO, Hat, -, Hpay⟩
  ihave Hp := (Entails.of_eq (rest_cell X c w)) $$ Hpay
  imod (Rounds.cell_close ER (Rd X) (Set.mem_univ (K (c, some w))) (fun h => h) (R := 0 + 1) (duties_later X (cell c w))) $$ [Hat] with Hz
  · isplitr; · iexact HI
    iexact Hat
  iapply Hk
  isplitl [HO]; · iexists _; iexact HO
  isplitl [Hz] <;> iassumption

/-- A transfer whose sender gets its rows back. -/
theorem wp_give (c d : Dev nD) (p : Fin 8) (e : Ex) (src dst : Memref sig .tc .vmem S16x256 .f32) (j₁ j₂ : DmaSem sig)
    (hj₁ : j₁ = dsem (p, false, e)) (hj₂ : j₂ = dsem (p, true, e)) (hd : d = peer p e c)
    {hsc : (dst : Memref sig (Dev.tc d : Thread nD τ).2.kind .vmem S16x256 .f32).view.ref.isScScratch = false}
    {h₁ : src.view.WordExact} {h₂ : dst.view.WordExact}
    {h₃ : DmaTarget.Typed .vmem (.dma j₂) (.remote (Dev.tc d : Thread nD τ) dst (.dma j₁) hsc)}
    (hN : dst.view.dmaCredit = N) (v : Vec F S16x256 .f32) (l : List (Fin 8 × St))
    {α : Type} {Q : α → sProp 𝕄} {k : PUnit → Prog (TpuEff nD τ sig (Elt F) Λ₀ .tc) α}
    (hpay₁ : holds c src v ⊢ pay X c p false e) (hpay₂ : holds d dst v ⊢ pay X d p true e) :
    iprop(recs X K ∗ holds c src v ∗ anyAt d dst ∗ owesE c (owed c ((p, .send e) :: l))
        ∗ dutyTok ER (cell c (p, false, e)) 0 0 ∗ dutyTok ER (cell d (p, true, e)) 0 0)
      ⊢ iprop(((cred (tallyAt (cell c (p, false, e)) () N) ∗ owesE c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma j₁) hsc) (.dma j₂) h₁ h₂ h₃) k) Q) := by
  subst hj₁ hj₂ hd
  iintro ⟨#HR, Hs, Hd, Ho, Ht1, Ht2⟩ Hk
  unfold owesE anyAt holds
  icases Ho with ⟨%W, HO⟩
  icases Hd with ⟨%fd, Hd⟩
  icases Hs with ⟨%fs, %hfs, Hs⟩
  ihave #HI1 := (recs_inv X K c (some (p, false, e))) $$ HR
  ihave #HI2 := (recs_inv X K (peer p e c) (some (p, true, e))) $$ HR
  ihave #Hr1 := (recs_reached X K c (some (p, false, e))) $$ HR
  ihave #Hr2 := (recs_reached X K (peer p e c) (some (p, true, e))) $$ HR
  iapply (Rounds.wp_send_pointsTo 𝒱₀ ER (Rd X) (c : Thread nD τ) none (c' := (Dev.tc (peer p e c) : Thread nD τ)) (sS := .dma (dsem (p, false, e))) (sem := .dma (dsem (p, true, e))) (κ₁ := K (c, some (p, false, e))) (κ₂ := K (peer p e c, some (p, true, e)))
    (src := src) (dst := dst) (fs := fs) (fd := fd) (r₁ := 0) (r₂ := 0) (d₁ := 0) (d₂ := 0)
    (by rw [duties_cell]; exact Finset.mem_singleton_self _) (by rw [duties_cell]; exact Finset.mem_singleton_self _)
    () () N hN (amount_cell X c (p, false, e) 0) (amount_cell X (peer p e c) (p, true, e) 0) (owed c l) (owed_send c p e l) (W := W)
    (by
      rw [payload_cell]
      refine BIBase.Entails.trans ?_ hpay₁
      unfold holds
      iintro H
      iexists fs
      isplitr; · ipureintro; exact hfs
      iexact H)
    (by
      rw [payload_cell]
      refine BIBase.Entails.trans ?_ hpay₂
      unfold holds
      iintro H
      iexists _
      isplitr; swap; · iexact H
      ipureintro
      exact (View.read_write_univ _ _).trans hfs)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The transfer across `x`: the rows sent travel along to the receiver. -/
theorem wp_part (c d : Dev nD) (p : Fin 8) (src dst : Memref sig .tc .vmem S16x256 .f32) (j₁ j₂ : DmaSem sig)
    (hj₁ : j₁ = dsem (p, false, .x)) (hj₂ : j₂ = dsem (p, true, .x)) (hd : d = xDev c)
    {hsc : (dst : Memref sig (Dev.tc d : Thread nD τ).2.kind .vmem S16x256 .f32).view.ref.isScScratch = false}
    {h₁ : src.view.WordExact} {h₂ : dst.view.WordExact}
    {h₃ : DmaTarget.Typed .vmem (.dma j₂) (.remote (Dev.tc d : Thread nD τ) dst (.dma j₁) hsc)}
    (hN : dst.view.dmaCredit = N) (v : Vec F S16x256 .f32) (l : List (Fin 8 × St))
    {α : Type} {Q : α → sProp 𝕄} {k : PUnit → Prog (TpuEff nD τ sig (Elt F) Λ₀ .tc) α}
    (hpay : iprop(holds d dst v ∗ anyAt c src) ⊢ pay X d p true .x) :
    iprop(recs X K ∗ holds c src v ∗ anyAt d dst ∗ owesE c (owed c ((p, .send .x) :: l))
        ∗ dutyTok ER (cell c (p, false, .x)) 0 0 ∗ dutyTok ER (cell d (p, true, .x)) 0 0)
      ⊢ iprop(((cred (tallyAt (cell c (p, false, .x)) () N) ∗ owesE c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma j₁) hsc) (.dma j₂) h₁ h₂ h₃) k) Q) := by
  subst hj₁ hj₂ hd
  iintro ⟨#HR, Hs, Hd, Ho, Ht1, Ht2⟩ Hk
  unfold owesE anyAt holds
  icases Ho with ⟨%W, HO⟩
  icases Hd with ⟨%fd, Hd⟩
  icases Hs with ⟨%fs, %hfs, Hs⟩
  ihave #HI1 := (recs_inv X K c (some (p, false, .x))) $$ HR
  ihave #HI2 := (recs_inv X K (xDev c) (some (p, true, .x))) $$ HR
  ihave #Hr1 := (recs_reached X K c (some (p, false, .x))) $$ HR
  ihave #Hr2 := (recs_reached X K (xDev c) (some (p, true, .x))) $$ HR
  iapply (Rounds.wp_send_landing_pointsTo 𝒱₀ ER (Rd X) (c : Thread nD τ) none (c' := (Dev.tc (xDev c) : Thread nD τ)) (sS := .dma (dsem (p, false, .x))) (sem := .dma (dsem (p, true, .x))) (κ₁ := K (c, some (p, false, .x))) (κ₂ := K (xDev c, some (p, true, .x)))
    (src := src) (dst := dst) (fs := fs) (fd := fd) (r₁ := 0) (r₂ := 0) (d₁ := 0) (d₂ := 0)
    (by rw [duties_cell]; exact Finset.mem_singleton_self _) (by rw [duties_cell]; exact Finset.mem_singleton_self _)
    () () N hN (amount_cell X c (p, false, .x) 0) (amount_cell X (xDev c) (p, true, .x) 0) (owed c l) (owed_send c p .x l) (W := W)
    (by rw [payload_cell]; exact BIBase.Entails.rfl)
    (by
      rw [payload_cell]
      refine BIBase.Entails.trans ?_ hpay
      unfold holds anyAt
      iintro ⟨H, Hs⟩
      isplitl [H]
      · iexists _
        isplitr; swap; · iexact H
        ipureintro
        exact (View.read_write_univ _ _).trans hfs
      · iexists fs; iexact Hs)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Kinds

/-! ## Additions -/

/-- Rows of the result buffer named by equal offsets: they read and are written alike. -/
theorem rows_read {o o' : Fin 2 → ℕ} (h : o = o') (hi : ∀ a, o a + S16x256.size a ≤ S256x256.size a)
    (hi' : ∀ a, o' a + S16x256.size a ≤ S256x256.size a) (f : (cc0_stg1_0 : Ref sig .tc).ty.Contents (Elt F)) :
    (outM.access (Rect.unit (s := S256x256) o S16x256.size hi)).read (Elt F) f
      = (outM.slice (Rect.unit (s := S256x256) o' S16x256.size hi') (fun _ => rfl)).view.read (Elt F) f := by
  subst h; rfl
theorem rows_read_write {o o' : Fin 2 → ℕ} (h : o = o') (hi : ∀ a, o a + S16x256.size a ≤ S256x256.size a)
    (hi' : ∀ a, o' a + S16x256.size a ≤ S256x256.size a) (f : (cc0_stg1_0 : Ref sig .tc).ty.Contents (Elt F)) (w : Vec F S16x256 .f32) :
    (outM.slice (Rect.unit (s := S256x256) o' S16x256.size hi') (fun _ => rfl)).view.read (Elt F)
      ((outM.access (Rect.unit (s := S256x256) o S16x256.size hi)).write (Elt F) f w Finset.univ) = w := by
  subst h; exact View.read_write_univ _ _
theorem rows_set {o o' : Fin 2 → ℕ} (h : o = o') (hi : ∀ a, o a + S16x256.size a ≤ S256x256.size a)
    (hi' : ∀ a, o' a + S16x256.size a ≤ S256x256.size a) :
    (outM.access (Rect.unit (s := S256x256) o S16x256.size hi)).set
      = (outM.slice (Rect.unit (s := S256x256) o' S16x256.size hi') (fun _ => rfl)).view.set := by
  subst h; rfl
theorem own_set (c : Dev nD) (p : Fin 8) : (outM.access (ownR c p)).set = (ownV c p).view.set := rows_set (off2_eq c p) _ _

theorem plusX_eq (a : Vec F S16x256 .f32) (p : Fin 8) (f : (cc0_scratch0 : Ref sig .tc).ty.Contents (Elt F)) :
    plusX a ((xrsM.access (xrsR p)).read (Elt F) f) = addf a ((xrsV p).view.read (Elt F) f) := by
  unfold plusX; rw [cast_xrs, shapeCast_self]
theorem plusM_eq (a : Vec F S16x256 .f32) (p : Fin 8) (t : Fin 4) (f : (cc0_scratch1 : Ref sig .tc).ty.Contents (Elt F)) :
    plusM a ((midM.access (midR p t)).read (Elt F) f) = addf a ((midV p t).view.read (Elt F) f) := by
  unfold plusM; rw [cast_mid, shapeCast_self]

section Adds

variable (c : Dev nD) (p : Fin 8) (v u : Vec F S16x256 .f32)

/-- Adding what landed across `x`. -/
theorem wp_addX {α : Type} {Q : α → sProp 𝕄} {k : PUnit → Prog (TpuEff nD τ sig (Elt F) Λ₀ .tc) α} :
    iprop(holds c (ownV c p) v ∗ holds c (xrsV p) u)
      ⊢ iprop(((holds c (ownV c p) (addf v u) ∗ anyAt c (xrsV p)) -∗ wp frame (wpE (defs₀ (F := F)) 𝒱₀ (c : Thread nD τ) none) Set.univ (k ⟨⟩) Q)
          -∗ wp frame (wpE (defs₀ (F := F)) 𝒱₀ (c : Thread nD τ) none) Set.univ (act c p .addX >>= k) Q) := by
  unfold act
  simp only [Prog.lift, Prog.bind_op, Prog.bind_ret, Prog.pure_eq_ret]
  unfold holds anyAt
  iintro ⟨⟨%f, %hf, Hf⟩, %g, %hg, Hg⟩ Hk
  iapply (wp_load_rect 𝒱₀ (c : Thread nD τ) none Set.univ (m := outM) (r := ownR c p) (Finset.subset_of_eq (own_set c p))) $$ Hf; iintro Hf
  iapply (wp_load_rect 𝒱₀ (c : Thread nD τ) none Set.univ (m := xrsM) (r := xrsR p) (Finset.subset_of_eq (View.set_reshape _ _).symm)) $$ Hg; iintro Hg
  iapply (wp_load_rect 𝒱₀ (c : Thread nD τ) none Set.univ (m := outM) (r := ownR c p) (Finset.subset_of_eq (own_set c p))) $$ Hf; iintro Hf
  iapply (wp_store 𝒱₀ (c : Thread nD τ) none Set.univ (m := outM) (r := ownR c p) (Mk := Finset.univ) (Finset.subset_of_eq (own_set c p))) $$ Hf; iintro Hf
  iapply Hk
  isplitl [Hf]
  · iexists _
    isplitr; swap; · iexact Hf
    ipureintro
    refine (rows_read_write (off2_eq c p) _ _ _ _).trans ?_
    rw [plusX_eq, hg, rows_read (off2_eq c p) _ (k0_off3_inb c p)]
    exact congrArg (fun a => addf a u) hf
  · iexists g; iexact Hg

/-- Adding what landed across `y` or `z`. -/
theorem wp_addM (t : Fin 4) {α : Type} {Q : α → sProp 𝕄} {k : PUnit → Prog (TpuEff nD τ sig (Elt F) Λ₀ .tc) α} :
    iprop(holds c (ownV c p) v ∗ holds c (midV p t) u)
      ⊢ iprop(((holds c (ownV c p) (addf v u) ∗ anyAt c (midV p t)) -∗ wp frame (wpE (defs₀ (F := F)) 𝒱₀ (c : Thread nD τ) none) Set.univ (k ⟨⟩) Q)
          -∗ wp frame (wpE (defs₀ (F := F)) 𝒱₀ (c : Thread nD τ) none) Set.univ (act c p (.addM t) >>= k) Q) := by
  unfold act
  simp only [Prog.lift, Prog.bind_op, Prog.bind_ret, Prog.pure_eq_ret]
  unfold holds anyAt
  iintro ⟨⟨%f, %hf, Hf⟩, %g, %hg, Hg⟩ Hk
  iapply (wp_load_rect 𝒱₀ (c : Thread nD τ) none Set.univ (m := outM) (r := ownR c p) (Finset.subset_of_eq (own_set c p))) $$ Hf; iintro Hf
  iapply (wp_load_rect 𝒱₀ (c : Thread nD τ) none Set.univ (m := midM) (r := midR p t) (Finset.subset_of_eq (View.set_reshape _ _).symm)) $$ Hg; iintro Hg
  iapply (wp_load_rect 𝒱₀ (c : Thread nD τ) none Set.univ (m := outM) (r := ownR c p) (Finset.subset_of_eq (own_set c p))) $$ Hf; iintro Hf
  iapply (wp_store 𝒱₀ (c : Thread nD τ) none Set.univ (m := outM) (r := ownR c p) (Mk := Finset.univ) (Finset.subset_of_eq (own_set c p))) $$ Hf; iintro Hf
  iapply Hk
  isplitl [Hf]
  · iexists _
    isplitr; swap; · iexact Hf
    ipureintro
    refine (rows_read_write (off2_eq c p) _ _ _ _).trans ?_
    rw [plusM_eq, hg, rows_read (off2_eq c p) _ (k0_off3_inb c p)]
    exact congrArg (fun a => addf a u) hf
  · iexists g; iexact Hg

end Adds

end Cert.KernelIdeal.Cube

end
-- ==== Proof.KernelIdeal.Sweep.lean ====
/-
# All steps in order

Each step's program does what the protocol says of it (`wp_step`), and so does the whole list of steps (`wp_steps`): by
induction along the list, which needs only that the list is in order.
-/
module

public import proofs.«01_k».proof.Proof.KernelIdeal.Moves

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32) (K : Dev nD × Cx → ℕ)

/-- After the last of the four exchanges comes the return across `x`, after the others the next. -/
theorem flow_addM (c : Dev nD) (p : Fin 8) (t : Fin 4) :
    flow X c p (next (.addM t)) = iprop(holds c (ownV c p) (acc X (t.val + 1) c p) ∗ anyAt (xDev c) (ownV c p)) := by
  fin_cases t <;> rfl

theorem pay_x (c : Dev nD) (p : Fin 8) :
    pay X (xDev c) p true .x = iprop(holds (xDev c) (xrsV p) (give0 X c p) ∗ anyAt c (giveV c p)) := by
  show iprop(holds (xDev c) (xrsV p) (give0 X (xDev (xDev c)) p) ∗ anyAt (xDev (xDev c)) (ownV (xDev c) p)) = _
  rw [xDev_xDev, ownV_xDev]
theorem pay_m (c : Dev nD) (p : Fin 8) (t : Fin 4) : pay X (midDev p t c) p true (.m t) = holds (midDev p t c) (midV p t) (acc X t.val c p) := by
  show holds (midDev p t c) (midV p t) (acc X t.val (midDev p t (midDev p t c)) p) = _
  rw [midDev_midDev]
theorem pay_a (c : Dev nD) (p : Fin 8) : pay X (xDev c) p true .a = holds (xDev c) (ownV c p) (acc X 4 c p) := by
  show holds (xDev c) (giveV (xDev c) p) (acc X 4 (xDev (xDev c)) p) = _
  rw [xDev_xDev, giveV_xDev]

/-- A step's program does what the protocol says of the step. -/
theorem wp_step (c : Dev nD) (p : Fin 8) (s : St) (l : List (Fin 8 × St)) (hb : ∀ y ∈ l, ∀ e, y.2 = .send e → bound s < rank e)
    {α : Type} {Q : α → sProp 𝕄} {k : PUnit → Prog (TpuEff nD τ sig (Elt F) Λ₀ .tc) α} :
    iprop(recs X K ∗ levAts L lv ∗ owesE c (owed c ((p, s) :: l)) ∗ pre X c p s ∗ flow X c p (some s))
      ⊢ iprop(((owesE c (owed c l) ∗ post X c p s ∗ flow X c p (next s)) -∗ wp frame (wpE (defs₀ (F := F)) 𝒱₀ (c : Thread nD τ) none) Set.univ (k ⟨⟩) Q)
          -∗ wp frame (wpE (defs₀ (F := F)) 𝒱₀ (c : Thread nD τ) none) Set.univ (act c p s >>= k) Q) := by
  rcases s with e | e | e | _ | t
  · rcases e with _ | t | _
    · simp only [act, Prog.lift, Prog.bind_op, Prog.bind_ret, Prog.pure_eq_ret]
      show iprop(recs X K ∗ levAts L lv ∗ owesE c (owed c ((p, .send .x) :: l)) ∗ (dutyTok ER (cell c (p, false, .x)) 0 0 ∗ dutyTok ER (cell (xDev c) (p, true, .x)) 0 0 ∗ anyAt (xDev c) (xrsV p) ∗ holds c (giveV c p) (give0 X c p)) ∗ holds c (ownV c p) (own0 X c p))
              ⊢ iprop(((owesE c (owed c l) ∗ emp ∗ holds c (ownV c p) (own0 X c p) ∗ cred (tallyAt (cell c (p, false, .x)) () N)) -∗ _) -∗ _)
      iintro ⟨#HR, -, Ho, ⟨Ht1, Ht2, Hd, Hs⟩, Hflow⟩ Hk
      iapply (wp_part X K c (xDev c) p  (giveV c p) (xrsV p) _ _ (sem_scratch2 p) (sem_scratch3 p) rfl rfl (give0 X c p) l (by rw [pay_x])) $$ [Ho Ht1 Ht2 Hd Hs]
      · isplitr; · iexact HR
        isplitl [Hs]; · iexact Hs
        isplitl [Hd]; · iexact Hd
        isplitl [Ho]; · iexact Ho
        isplitl [Ht1] <;> iassumption
      iintro ⟨Hc, Ho⟩
      iapply Hk
      isplitl [Ho]; · iexact Ho
      isplitr; · iempintro
      isplitl [Hflow] <;> iassumption
    · simp only [act, Prog.lift, Prog.bind_op, Prog.bind_ret, Prog.pure_eq_ret]
      show iprop(recs X K ∗ levAts L lv ∗ owesE c (owed c ((p, .send (.m t)) :: l)) ∗ (dutyTok ER (cell c (p, false, .m t)) 0 0 ∗ dutyTok ER (cell (midDev p t c) (p, true, .m t)) 0 0 ∗ anyAt (midDev p t c) (midV p t)) ∗ (holds c (ownV c p) (acc X t.val c p) ∗ anyAt (xDev c) (ownV c p)))
              ⊢ iprop(((owesE c (owed c l) ∗ emp ∗ cred (tallyAt (cell c (p, false, .m t)) () N) ∗ anyAt (xDev c) (ownV c p)) -∗ _) -∗ _)
      iintro ⟨#HR, -, Ho, ⟨Ht1, Ht2, Hd⟩, Hs, Hdest⟩ Hk
      iapply (wp_give X K c (midDev p t c) p (.m t) (ownV c p) (midV p t) _ _ (sem_scratch4 p t) (sem_scratch5 p t) rfl rfl (acc X t.val c p) l (BIBase.Entails.rfl) (by rw [pay_m])) $$ [Ho Ht1 Ht2 Hd Hs]
      · isplitr; · iexact HR
        isplitl [Hs]; · iexact Hs
        isplitl [Hd]; · iexact Hd
        isplitl [Ho]; · iexact Ho
        isplitl [Ht1] <;> iassumption
      iintro ⟨Hc, Ho⟩
      iapply Hk
      isplitl [Ho]; · iexact Ho
      isplitr; · iempintro
      isplitl [Hc] <;> iassumption
    · simp only [act, Prog.lift, Prog.bind_op, Prog.bind_ret, Prog.pure_eq_ret]
      show iprop(recs X K ∗ levAts L lv ∗ owesE c (owed c ((p, .send .a) :: l)) ∗ (dutyTok ER (cell c (p, false, .a)) 0 0 ∗ dutyTok ER (cell (xDev c) (p, true, .a)) 0 0 ∗ emp) ∗ (holds c (ownV c p) (acc X 4 c p) ∗ anyAt (xDev c) (ownV c p)))
              ⊢ iprop(((owesE c (owed c l) ∗ emp ∗ cred (tallyAt (cell c (p, false, .a)) () N)) -∗ _) -∗ _)
      iintro ⟨#HR, -, Ho, ⟨Ht1, Ht2, -⟩, Hs, Hd⟩ Hk
      iapply (wp_give X K c (xDev c) p .a (ownV c p) (ownV c p) _ _ (sem_scratch6 p) (sem_scratch7 p) rfl rfl (acc X 4 c p) l (BIBase.Entails.rfl) (by rw [pay_a])) $$ [Ho Ht1 Ht2 Hd Hs]
      · isplitr; · iexact HR
        isplitl [Hs]; · iexact Hs
        isplitl [Hd]; · iexact Hd
        isplitl [Ho]; · iexact Ho
        isplitl [Ht1] <;> iassumption
      iintro ⟨Hc, Ho⟩
      iapply Hk
      isplitl [Ho]; · iexact Ho
      isplitr; · iempintro
      iexact Hc
  · rw [owed_rest c (p, .done e) l rfl]
    have hlv : lv (cell c (p, false, e)) () ≤ 0 := le_of_eq (lv_send c p e)
    rcases e with _ | t | _
    · simp only [act, Prog.lift, Prog.bind_op, Prog.bind_ret, Prog.pure_eq_ret]
      show iprop(recs X K ∗ levAts L lv ∗ owesE c (owed c l) ∗ atPos ER (cell c (p, false, .x)) 0 ∅ 0 ∗ (holds c (ownV c p) (own0 X c p) ∗ cred (tallyAt (cell c (p, false, .x)) () N)))
              ⊢ iprop(((owesE c (owed c l) ∗ semVal (cell c (p, false, .x)) 0 ∗ holds c (ownV c p) (own0 X c p)) -∗ _) -∗ _)
      iintro ⟨#HR, #Hlev, Ho, Hat, Hs, Hc⟩ Hk
      iapply (wp_take X K c (p, false, .x) _ (sem_scratch2 p) (xrsV p) (giveV c p) rfl l 0 hlv hb) $$ [Ho Hc Hat]
      · isplitr; · iexact HR
        isplitr; · iexact Hlev
        isplitl [Hc]; · iexact Hc
        isplitl [Ho] <;> iassumption
      iintro ⟨Ho, Hz, Hp⟩
      iapply Hk
      isplitl [Ho]; · iexact Ho
      isplitl [Hz] <;> iassumption
    · simp only [act, Prog.lift, Prog.bind_op, Prog.bind_ret, Prog.pure_eq_ret]
      show iprop(recs X K ∗ levAts L lv ∗ owesE c (owed c l) ∗ atPos ER (cell c (p, false, .m t)) 0 ∅ 0 ∗ (cred (tallyAt (cell c (p, false, .m t)) () N) ∗ anyAt (xDev c) (ownV c p)))
              ⊢ iprop(((owesE c (owed c l) ∗ semVal (cell c (p, false, .m t)) 0 ∗ holds c (ownV c p) (acc X t.val c p) ∗ anyAt (xDev c) (ownV c p)) -∗ _) -∗ _)
      iintro ⟨#HR, #Hlev, Ho, Hat, Hc, Hdest⟩ Hk
      iapply (wp_take X K c (p, false, .m t) _ (sem_scratch4 p t) (midV p t) (ownV c p) rfl l 0 hlv hb) $$ [Ho Hc Hat]
      · isplitr; · iexact HR
        isplitr; · iexact Hlev
        isplitl [Hc]; · iexact Hc
        isplitl [Ho] <;> iassumption
      iintro ⟨Ho, Hz, Hp⟩
      ihave Hp := (Entails.of_eq (show pay X c p false (.m t) = holds c (ownV c p) (acc X t.val c p) from rfl)) $$ Hp
      iapply Hk
      isplitl [Ho]; · iexact Ho
      isplitl [Hz]; · iexact Hz
      isplitl [Hp] <;> iassumption
    · simp only [act, Prog.lift, Prog.bind_op, Prog.bind_ret, Prog.pure_eq_ret]
      show iprop(recs X K ∗ levAts L lv ∗ owesE c (owed c l) ∗ atPos ER (cell c (p, false, .a)) 0 ∅ 0 ∗ cred (tallyAt (cell c (p, false, .a)) () N))
              ⊢ iprop(((owesE c (owed c l) ∗ semVal (cell c (p, false, .a)) 0 ∗ holds c (ownV c p) (acc X 4 c p)) -∗ _) -∗ _)
      iintro ⟨#HR, #Hlev, Ho, Hat, Hc⟩ Hk
      iapply (wp_take X K c (p, false, .a) _ (sem_scratch6 p) (ownV c p) (ownV c p) rfl l 0 hlv hb) $$ [Ho Hc Hat]
      · isplitr; · iexact HR
        isplitr; · iexact Hlev
        isplitl [Hc]; · iexact Hc
        isplitl [Ho] <;> iassumption
      iintro ⟨Ho, Hz, Hp⟩
      ihave Hp := (Entails.of_eq (show pay X c p false (.a) = holds c (ownV c p) (acc X 4 c p) from rfl)) $$ Hp
      iapply Hk
      isplitl [Ho]; · iexact Ho
      isplitl [Hz] <;> iassumption
  · rw [owed_rest c (p, .recv e) l rfl]
    have hlv : lv (cell c (p, true, e)) () ≤ rank e := le_of_eq (lv_recv c p e)
    rcases e with _ | t | _
    · simp only [act, Prog.lift, Prog.bind_op, Prog.bind_ret, Prog.pure_eq_ret]
      show iprop(recs X K ∗ levAts L lv ∗ owesE c (owed c l) ∗ (atPos ER (cell c (p, true, .x)) 0 ∅ 0 ∗ cred (tallyAt (cell c (p, true, .x)) () N)) ∗ holds c (ownV c p) (own0 X c p))
              ⊢ iprop(((owesE c (owed c l) ∗ semVal (cell c (p, true, .x)) 0 ∗ holds c (ownV c p) (own0 X c p) ∗ holds c (xrsV p) (give0 X (xDev c) p) ∗ anyAt (xDev c) (ownV c p)) -∗ _) -∗ _)
      iintro ⟨#HR, #Hlev, Ho, ⟨Hat, Hc⟩, Hs⟩ Hk
      iapply (wp_take X K c (p, true, .x) _ (sem_scratch3 p) (giveV c p) (xrsV p) rfl l _ hlv hb) $$ [Ho Hc Hat]
      · isplitr; · iexact HR
        isplitr; · iexact Hlev
        isplitl [Hc]; · iexact Hc
        isplitl [Ho] <;> iassumption
      iintro ⟨Ho, Hz, Hp⟩
      ihave Hp := (Entails.of_eq (show pay X c p true (.x) = iprop(holds c (xrsV p) (give0 X (xDev c) p) ∗ anyAt (xDev c) (ownV c p)) from rfl)) $$ Hp
      iapply Hk
      isplitl [Ho]; · iexact Ho
      isplitl [Hz]; · iexact Hz
      isplitl [Hs]; · iexact Hs
      iexact Hp
    · simp only [act, Prog.lift, Prog.bind_op, Prog.bind_ret, Prog.pure_eq_ret]
      show iprop(recs X K ∗ levAts L lv ∗ owesE c (owed c l) ∗ (atPos ER (cell c (p, true, .m t)) 0 ∅ 0 ∗ cred (tallyAt (cell c (p, true, .m t)) () N)) ∗ (holds c (ownV c p) (acc X t.val c p) ∗ anyAt (xDev c) (ownV c p)))
              ⊢ iprop(((owesE c (owed c l) ∗ semVal (cell c (p, true, .m t)) 0 ∗ holds c (ownV c p) (acc X t.val c p) ∗ holds c (midV p t) (acc X t.val (midDev p t c) p) ∗ anyAt (xDev c) (ownV c p)) -∗ _) -∗ _)
      iintro ⟨#HR, #Hlev, Ho, ⟨Hat, Hc⟩, Hs, Hdest⟩ Hk
      iapply (wp_take X K c (p, true, .m t) _ (sem_scratch5 p t) (ownV c p) (midV p t) rfl l _ hlv hb) $$ [Ho Hc Hat]
      · isplitr; · iexact HR
        isplitr; · iexact Hlev
        isplitl [Hc]; · iexact Hc
        isplitl [Ho] <;> iassumption
      iintro ⟨Ho, Hz, Hp⟩
      ihave Hp := (Entails.of_eq (show pay X c p true (.m t) = holds c (midV p t) (acc X t.val (midDev p t c) p) from rfl)) $$ Hp
      iapply Hk
      isplitl [Ho]; · iexact Ho
      isplitl [Hz]; · iexact Hz
      isplitl [Hs]; · iexact Hs
      isplitl [Hp] <;> iassumption
    · simp only [act, Prog.lift, Prog.bind_op, Prog.bind_ret, Prog.pure_eq_ret]
      show iprop(recs X K ∗ levAts L lv ∗ owesE c (owed c l) ∗ (atPos ER (cell c (p, true, .a)) 0 ∅ 0 ∗ cred (tallyAt (cell c (p, true, .a)) () N)) ∗ holds c (ownV c p) (acc X 4 c p))
              ⊢ iprop(((owesE c (owed c l) ∗ (semVal (cell c (p, true, .a)) 0 ∗ holds c (giveV c p) (acc X 4 (xDev c) p)) ∗ holds c (ownV c p) (acc X 4 c p)) -∗ _) -∗ _)
      iintro ⟨#HR, #Hlev, Ho, ⟨Hat, Hc⟩, Hs⟩ Hk
      iapply (wp_take X K c (p, true, .a) _ (sem_scratch7 p) (ownV c p) (ownV c p) rfl l _ hlv hb) $$ [Ho Hc Hat]
      · isplitr; · iexact HR
        isplitr; · iexact Hlev
        isplitl [Hc]; · iexact Hc
        isplitl [Ho] <;> iassumption
      iintro ⟨Ho, Hz, Hp⟩
      ihave Hp := (Entails.of_eq (show pay X c p true (.a) = holds c (giveV c p) (acc X 4 (xDev c) p) from rfl)) $$ Hp
      iapply Hk
      isplitl [Ho]; · iexact Ho
      isplitl [Hz Hp]
      · isplitl [Hz] <;> iassumption
      iexact Hs
  · rw [owed_rest c (p, .addX) l rfl]
    show iprop(recs X K ∗ levAts L lv ∗ owesE c (owed c l) ∗ emp ∗ (holds c (ownV c p) (own0 X c p) ∗ holds c (xrsV p) (give0 X (xDev c) p) ∗ anyAt (xDev c) (ownV c p)))
            ⊢ iprop(((owesE c (owed c l) ∗ anyAt c (xrsV p) ∗ holds c (ownV c p) (addf (own0 X c p) (give0 X (xDev c) p)) ∗ anyAt (xDev c) (ownV c p)) -∗ _) -∗ _)
    iintro ⟨#HR, -, Ho, -, Hs, Hg, Hdest⟩ Hk
    iapply (wp_addX c p (own0 X c p) (give0 X (xDev c) p)) $$ [Hs Hg]
    · isplitl [Hs] <;> iassumption
    iintro ⟨Hs, Hg⟩
    iapply Hk
    isplitl [Ho]; · iexact Ho
    isplitl [Hg]; · iexact Hg
    isplitl [Hs] <;> iassumption
  · rw [owed_rest c (p, .addM t) l rfl, flow_addM, acc_succ]
    show iprop(recs X K ∗ levAts L lv ∗ owesE c (owed c l) ∗ emp ∗ (holds c (ownV c p) (acc X t.val c p) ∗ holds c (midV p t) (acc X t.val (midDev p t c) p) ∗ anyAt (xDev c) (ownV c p)))
            ⊢ iprop(((owesE c (owed c l) ∗ anyAt c (midV p t) ∗ (holds c (ownV c p) (addf (acc X t.val c p) (acc X t.val (midDev p t c) p)) ∗ anyAt (xDev c) (ownV c p))) -∗ _) -∗ _)
    iintro ⟨#HR, -, Ho, -, Hs, Hg, Hdest⟩ Hk
    iapply (wp_addM c p (acc X t.val c p) (acc X t.val (midDev p t c) p) t) $$ [Hs Hg]
    · isplitl [Hs] <;> iassumption
    iintro ⟨Hs, Hg⟩
    iapply Hk
    isplitl [Ho]; · iexact Ho
    isplitl [Hg]; · iexact Hg
    isplitl [Hs] <;> iassumption

/-! ## The list -/

/-- Where a chunk stands in a list of steps: before its first step in it. -/
theorem head_cons_self (p : Fin 8) (s : St) (l : List (Fin 8 × St)) : head p ((p, s) :: l) = some s := by
  unfold head; rw [List.find?_cons_of_pos (by simp)]; rfl
theorem head_cons_ne {p q : Fin 8} (h : q ≠ p) (s : St) (l : List (Fin 8 × St)) : head q ((p, s) :: l) = head q l := by
  unfold head; rw [List.find?_cons_of_neg (by simpa using fun e => h e.symm)]

omit [FloatOps F] in
theorem list_cons {I : Type} (Φ : I → sProp 𝕄) (i : I) (l : List I) : bigSepL (i :: l) Φ = iprop(Φ i ∗ bigSepL l Φ) := bigSepL_cons i l Φ

/-- Where the chunks stand before a step: the step's own chunk, and the others, which stand where they stand after it. -/
theorem flows_cons (c : Dev nD) (p : Fin 8) (s : St) (l : List (Fin 8 × St)) :
    (bigSep Finset.univ fun q : Fin 8 => flow X c q (head q ((p, s) :: l)))
      = iprop(flow X c p (some s) ∗ bigSep (Finset.univ.erase p) fun q : Fin 8 => flow X c q (head q l)) := by
  rw [bigSep_erase (Finset.mem_univ p), head_cons_self,
    bigSep_congr (s := Finset.univ.erase p) fun q hq => by rw [head_cons_ne (Finset.ne_of_mem_erase hq)]]
  rfl
theorem flows_next (c : Dev nD) (p : Fin 8) (s : St) (l : List (Fin 8 × St)) (hn : head p l = next s) :
    (bigSep Finset.univ fun q : Fin 8 => flow X c q (head q l))
      = iprop(flow X c p (next s) ∗ bigSep (Finset.univ.erase p) fun q : Fin 8 => flow X c q (head q l)) := by
  rw [bigSep_erase (Finset.mem_univ p), hn]
  rfl

/-- A list of steps in order does what the protocol says of its steps. -/
theorem wp_steps (c : Dev nD) (l : List (Fin 8 × St)) (h : InOrder l) (Q : PUnit → sProp 𝕄) :
    iprop(recs X K ∗ levAts L lv ∗ owesE c (owed c l) ∗ (bigSepL l fun x => pre X c x.1 x.2)
        ∗ (bigSep Finset.univ fun p : Fin 8 => flow X c p (head p l)))
      ⊢ iprop(((owesE c 0 ∗ (bigSepL l fun x => post X c x.1 x.2) ∗ (bigSep Finset.univ fun p : Fin 8 => flow X c p none)) -∗ Q ⟨⟩)
          -∗ wp frame (wpE (defs₀ (F := F)) 𝒱₀ (c : Thread nD τ) none) Set.univ (steps c l) Q) := by
  induction l generalizing Q with
  | nil =>
    iintro ⟨-, -, Ho, Hl, Hf⟩ Hk
    unfold steps
    rw [Prog.pure_eq_ret, wp_ret]
    imodintro
    iapply Hk
    isplitl [Ho]; · iexact Ho
    isplitr; · iapply (Entails.of_eq (bigSepL_nil (fun x : Fin 8 × St => post X c x.1 x.2)).symm); iempintro
    iapply (Entails.of_eq (show (bigSep Finset.univ fun p : Fin 8 => flow X c p (head p [])) = bigSep Finset.univ fun p : Fin 8 => flow X c p none from rfl)) $$ Hf
  | cons x l ih =>
    obtain ⟨p, s⟩ := x
    obtain ⟨hn, hb, hl⟩ := h
    have ih' := ih hl
    iintro ⟨#HR, #Hlev, Ho, Hl, Hf⟩ Hk
    ihave Hl' := (Entails.of_eq (list_cons (fun x : Fin 8 × St => pre X c x.1 x.2) (p, s) l)) $$ Hl
    icases Hl' with ⟨Hx, Hl⟩
    ihave Hf' := (Entails.of_eq (flows_cons X c p s l)) $$ Hf
    icases Hf' with ⟨Hp, Hf⟩
    unfold steps
    iapply (wp_step X K c p s l hb) $$ [Ho Hx Hp]
    · isplitr; · iexact HR
      isplitr; · iexact Hlev
      isplitl [Ho]; · iexact Ho
      isplitl [Hx] <;> iassumption
    iintro ⟨Ho, Hx, Hp⟩
    iapply (ih' Q) $$ [Ho Hl Hf Hp]
    · isplitr; · iexact HR
      isplitr; · iexact Hlev
      isplitl [Ho]; · iexact Ho
      isplitl [Hl]; · iexact Hl
      iapply (Entails.of_eq (flows_next X c p s l hn).symm)
      isplitl [Hp] <;> iassumption
    iintro ⟨Ho, Hl, Hf⟩
    iapply Hk
    isplitl [Ho]; · iexact Ho
    isplitl [Hx Hl]
    · iapply (Entails.of_eq (list_cons (fun x : Fin 8 × St => post X c x.1 x.2) (p, s) l).symm)
      isplitl [Hx] <;> iassumption
    iexact Hf

end Cert.KernelIdeal.Cube

end
-- ==== Proof.KernelIdeal.Regroup.lean ====
/-
# Regrouping what a device holds

What a device holds is listed in three ways: by the partner it has it from, by the chunk, and by the step that uses it. This
module states how one list becomes another.
-/
module

public import proofs.«01_k».proof.Proof.KernelIdeal.Sweep

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32)

/-! ## Over the exchanges, and over the steps -/

def exEquiv : Unit ⊕ Fin 4 ⊕ Unit ≃ Ex where
  toFun
    | .inl _ => .x
    | .inr (.inl t) => .m t
    | .inr (.inr _) => .a
  invFun
    | .x => .inl ()
    | .m t => .inr (.inl t)
    | .a => .inr (.inr ())
  left_inv := by rintro (_ | _ | _) <;> rfl
  right_inv := by rintro (_ | _ | _) <;> rfl

def stEquiv : Ex ⊕ Ex ⊕ Ex ⊕ Unit ⊕ Fin 4 ≃ St where
  toFun
    | .inl e => .send e
    | .inr (.inl e) => .done e
    | .inr (.inr (.inl e)) => .recv e
    | .inr (.inr (.inr (.inl _))) => .addX
    | .inr (.inr (.inr (.inr t))) => .addM t
  invFun
    | .send e => .inl e
    | .done e => .inr (.inl e)
    | .recv e => .inr (.inr (.inl e))
    | .addX => .inr (.inr (.inr (.inl ())))
    | .addM t => .inr (.inr (.inr (.inr t)))
  left_inv := by rintro (_ | _ | _ | _ | _) <;> rfl
  right_inv := by rintro (_ | _ | _ | _ | _) <;> rfl

omit [FloatOps F] in
theorem bigSep_Ex (Φ : Ex → sProp 𝕄) : bigSep Finset.univ Φ = iprop(Φ .x ∗ (bigSep Finset.univ fun t => Φ (.m t)) ∗ Φ .a) := by
  rw [bigSep_univ_equiv exEquiv, bigSep_univ_sum, bigSep_univ_sum, bigSep_univ_of_subsingleton (), bigSep_univ_of_subsingleton ()]
  rfl

omit [FloatOps F] in
theorem bigSep_St (Φ : St → sProp 𝕄) : bigSep Finset.univ Φ
    = iprop((bigSep Finset.univ fun e => Φ (.send e)) ∗ (bigSep Finset.univ fun e => Φ (.done e)) ∗ (bigSep Finset.univ fun e => Φ (.recv e))
        ∗ Φ .addX ∗ bigSep Finset.univ fun t => Φ (.addM t)) := by
  rw [bigSep_univ_equiv stEquiv, bigSep_univ_sum, bigSep_univ_sum, bigSep_univ_sum, bigSep_univ_sum, bigSep_univ_of_subsingleton ()]
  rfl

omit [FloatOps F] in
theorem bigSep_two (Φ : Bool → sProp 𝕄) : bigSep Finset.univ Φ = iprop(Φ false ∗ Φ true) :=
  bigSep_univ_eq_bigSepL [false, true] (by decide) (by decide) Φ

omit [FloatOps F] in
theorem bigSep_five (Φ : Fin 5 → sProp 𝕄) : bigSep Finset.univ Φ = iprop(Φ 0 ∗ bigSep Finset.univ fun q : Fin 4 => Φ q.succ) := by
  rw [bigSep_univ_eq_bigSepL [0, 1, 2, 3, 4] (by decide) (by decide) Φ,
    bigSep_univ_eq_bigSepL [0, 1, 2, 3] (by decide) (by decide) fun q : Fin 4 => Φ q.succ]
  rfl

omit [FloatOps F] in
theorem emp_left (P : sProp 𝕄) : iprop(emp ∗ P) = P := equiv_iff.mp emp_sep
omit [FloatOps F] in
theorem emp_right (P : sProp 𝕄) : iprop(P ∗ emp) = P := equiv_iff.mp sep_emp

omit [FloatOps F] in
theorem sep_regroup (P Q R : sProp 𝕄) : iprop((P ∗ Q) ∗ R) = iprop(P ∗ Q ∗ R) := by
  show BI.sep (BI.sep P Q) R = BI.sep P (BI.sep Q R)
  ac_rfl
omit [FloatOps F] in
theorem bigSep_none {I : Type} (s : Finset I) : (bigSep s fun _ => iprop(emp)) = (iprop(emp) : sProp 𝕄) := bigSep_emp_const s

/-- The order lists every step of every chunk once. -/
theorem bigSep_order (Φ : Fin 8 × St → sProp 𝕄) :
    bigSepL order Φ = bigSep Finset.univ fun p : Fin 8 => bigSep Finset.univ fun s : St => Φ (p, s) := by
  rw [← bigSep_univ_eq_bigSepL order (Finset.ext fun x => by simpa using mem_order x) order_nodup Φ, bigSep_univ_prod]

/-! ## Landing places: by partner, and by stage -/

theorem exch_stageOf (p : Fin 8) (q : Fin 4) : exch p (stageOf p q) = q := by revert p q; decide
theorem stageOf_exch (p : Fin 8) (t : Fin 4) : stageOf p (exch p t) = t := by revert p t; decide
/-- Over the four stages a chunk uses every exchange once. -/
def exchEquiv (p : Fin 8) : Fin 4 ≃ Fin 4 := ⟨exch p, stageOf p, stageOf_exch p, exch_stageOf p⟩

omit [FloatOps F] in
theorem land_succ (q : Fin 4) (c : Dev nD) (p : Fin 8) : land (F := F) q.succ c p = anyAt c (midV p (stageOf p q)) := by
  fin_cases q <;> rfl
theorem pal_succ (q : Fin 4) (c : Dev nD) : pal q.succ c = yzDev q c := by fin_cases q <;> rfl

omit [FloatOps F] in
/-- The landing places the five partners use for a chunk, on any devices: one across `x`, and one for each stage. -/
theorem lands (f : Fin 5 → Dev nD) (p : Fin 8) :
    (bigSep Finset.univ fun d => land (F := F) d (f d) p)
      = iprop(anyAt (f 0) (xrsV p) ∗ bigSep Finset.univ fun t : Fin 4 => anyAt (f (exch p t).succ) (midV p t)) := by
  rw [bigSep_five, bigSep_congr (s := Finset.univ) fun (q : Fin 4) _ => land_succ (F := F) q (f q.succ) p,
    bigSep_univ_equiv (exchEquiv p) fun q : Fin 4 => anyAt (F := F) (f q.succ) (midV p (stageOf p q)),
    bigSep_congr (s := Finset.univ) (Φ := fun t : Fin 4 => anyAt (F := F) (f (exchEquiv p t).succ) (midV p (stageOf p (exchEquiv p t))))
      (Ψ := fun t : Fin 4 => anyAt (F := F) (f (exch p t).succ) (midV p t))
      fun t _ => by show anyAt (f (exch p t).succ) (midV p (stageOf p (exch p t))) = _; rw [stageOf_exch]]
  rfl

omit [FloatOps F] in
/-- What a device hands its five partners is all its landing places. -/
theorem lands_given (c : Dev nD) :
    (bigSep Finset.univ fun d : Fin 5 => barPay (F := F) (pal d c) d)
      = iprop((bigSep Finset.univ fun p : Fin 8 => anyAt c (xrsV p))
          ∗ bigSep Finset.univ fun p : Fin 8 => bigSep Finset.univ fun t : Fin 4 => anyAt c (midV p t)) := by
  unfold barPay
  rw [bigSep_congr (s := Finset.univ) fun (d : Fin 5) _ => bigSep_congr (s := Finset.univ) fun (p : Fin 8) _ => by rw [pal_pal],
    bigSep_univ_comm, bigSep_congr (s := Finset.univ) fun (p : Fin 8) _ => lands (fun _ => c) p, bigSep_sep']

theorem pal_zero (c : Dev nD) : pal 0 c = xDev c := rfl

omit [FloatOps F] in
theorem lands_pal (c : Dev nD) (p : Fin 8) :
    (bigSep Finset.univ fun d => land (F := F) d (pal d c) p)
      = iprop(anyAt (xDev c) (xrsV p) ∗ bigSep Finset.univ fun t : Fin 4 => anyAt (midDev p t c) (midV p t)) := by
  rw [lands (fun d => pal d c) p]
  simp only [pal_zero, pal_succ]

omit [FloatOps F] in
/-- What a device's five partners hand it: a landing place for every transfer it makes across `x`, `y` and `z`. -/
theorem lands_taken (c : Dev nD) :
    (bigSep Finset.univ fun d : Fin 5 => barPay (F := F) c d)
      = iprop((bigSep Finset.univ fun p : Fin 8 => anyAt (xDev c) (xrsV p))
          ∗ bigSep Finset.univ fun p : Fin 8 => bigSep Finset.univ fun t : Fin 4 => anyAt (midDev p t c) (midV p t)) := by
  unfold barPay
  rw [bigSep_univ_comm, bigSep_congr (s := Finset.univ) fun (p : Fin 8) _ => lands_pal c p, bigSep_sep']

/-! ## What is set aside for the steps -/

/-- What is set aside for a step from the launch on: tokens, positions and credits. -/
def gear (c : Dev nD) (p : Fin 8) : St → sProp 𝕄
  | .send e => iprop(dutyTok ER (cell c (p, false, e)) 0 0 ∗ dutyTok ER (cell (peer p e c) (p, true, e)) 0 0)
  | .done e => atPos ER (cell c (p, false, e)) 0 ∅ 0
  | .recv e => iprop(atPos ER (cell c (p, true, e)) 0 ∅ 0 ∗ cred (tallyAt (cell c (p, true, e)) () N))
  | .addX => iprop(emp)
  | .addM _ => iprop(emp)

/-- What a step gets besides, once the partners have signalled. -/
def fuelS (c : Dev nD) (p : Fin 8) : St → sProp 𝕄
  | .send e => fuel X c p e
  | .done _ => iprop(emp)
  | .recv _ => iprop(emp)
  | .addX => iprop(emp)
  | .addM _ => iprop(emp)

theorem gear_fuel (c : Dev nD) (p : Fin 8) (s : St) : pre X c p s = iprop(gear c p s ∗ fuelS X c p s) := by
  rcases s with e | e | e | _ | t
  · show iprop(_ ∗ _ ∗ fuel X c p e) = iprop((_ ∗ _) ∗ fuel X c p e)
    exact (sep_regroup _ _ _).symm
  all_goals exact (emp_right _).symm

theorem fuels (c : Dev nD) (p : Fin 8) :
    bigSep Finset.univ (fuelS X c p)
      = iprop(anyAt (xDev c) (xrsV p) ∗ holds c (giveV c p) (give0 X c p) ∗ bigSep Finset.univ fun t : Fin 4 => anyAt (midDev p t c) (midV p t)) := by
  rw [bigSep_St]
  show iprop((bigSep Finset.univ fun e => fuel X c p e) ∗ (bigSep Finset.univ fun _ : Ex => iprop(emp)) ∗ (bigSep Finset.univ fun _ : Ex => iprop(emp))
    ∗ iprop(emp) ∗ bigSep Finset.univ fun _ : Fin 4 => iprop(emp)) = _
  rw [bigSep_Ex, bigSep_none, bigSep_none, emp_left, emp_left, emp_left, emp_right]
  show iprop((anyAt (xDev c) (xrsV p) ∗ holds c (giveV c p) (give0 X c p)) ∗ (bigSep Finset.univ fun t : Fin 4 => anyAt (midDev p t c) (midV p t)) ∗ iprop(emp)) = _
  rw [emp_right]
  exact sep_regroup _ _ _

/-- Tokens, landing places and the rows to be given away are what the steps take. -/
theorem pres (c : Dev nD) :
    (bigSepL order fun x => pre X c x.1 x.2)
      = iprop((bigSep Finset.univ fun p : Fin 8 => bigSep Finset.univ (gear (F := F) c p))
          ∗ (bigSep Finset.univ fun p : Fin 8 => anyAt (xDev c) (xrsV p))
          ∗ (bigSep Finset.univ fun p : Fin 8 => holds c (giveV c p) (give0 X c p))
          ∗ bigSep Finset.univ fun p : Fin 8 => bigSep Finset.univ fun t : Fin 4 => anyAt (midDev p t c) (midV p t)) := by
  rw [bigSep_order, ← bigSep_sep', ← bigSep_sep', ← bigSep_sep']
  refine bigSep_congr fun p _ => ?_
  rw [bigSep_congr (s := Finset.univ) fun (s : St) _ => gear_fuel X c p s, bigSep_sep', fuels]

/-! ## What the steps leave -/

theorem posts1 (c : Dev nD) (p : Fin 8) :
    (bigSep Finset.univ fun s => post X c p s)
      = iprop((bigSep Finset.univ fun b : Bool => bigSep Finset.univ fun e : Ex => semVal (cell c (p, b, e)) 0)
          ∗ holds c (giveV c p) (acc X 4 (xDev c) p) ∗ anyAt c (xrsV p) ∗ bigSep Finset.univ fun t : Fin 4 => anyAt c (midV p t)) := by
  rw [bigSep_St, bigSep_two, bigSep_Ex fun e => post X c p (.recv e), bigSep_Ex fun e => semVal (cell c (p, true, e)) 0]
  show iprop((bigSep Finset.univ fun _ : Ex => iprop(emp)) ∗ (bigSep Finset.univ fun e => semVal (cell c (p, false, e)) 0)
    ∗ (semVal (cell c (p, true, .x)) 0 ∗ (bigSep Finset.univ fun t => semVal (cell c (p, true, .m t)) 0)
        ∗ semVal (cell c (p, true, .a)) 0 ∗ holds c (giveV c p) (acc X 4 (xDev c) p))
    ∗ anyAt c (xrsV p) ∗ bigSep Finset.univ fun t : Fin 4 => anyAt c (midV p t)) = _
  rw [bigSep_none, emp_left]
  show BI.sep _ (BI.sep (BI.sep _ (BI.sep _ (BI.sep _ _))) (BI.sep _ _)) = BI.sep (BI.sep _ (BI.sep _ (BI.sep _ _))) (BI.sep _ (BI.sep _ _))
  ac_rfl

/-- All transfer semaphores closed, the rows that came back, and the landing places. -/
theorem posts (c : Dev nD) :
    (bigSepL order fun x => post X c x.1 x.2)
      = iprop((bigSep Finset.univ fun w : Wx => semVal (cell c w) 0)
          ∗ (bigSep Finset.univ fun p : Fin 8 => holds c (giveV c p) (acc X 4 (xDev c) p))
          ∗ (bigSep Finset.univ fun p : Fin 8 => anyAt c (xrsV p))
          ∗ bigSep Finset.univ fun p : Fin 8 => bigSep Finset.univ fun t : Fin 4 => anyAt c (midV p t)) := by
  rw [bigSep_order, bigSep_univ_prod fun w : Wx => semVal (cell c w) 0,
    bigSep_congr (s := Finset.univ) fun (p : Fin 8) _ => bigSep_univ_prod fun w : Bool × Ex => (semVal (cell c (p, w)) 0 : sProp 𝕄),
    ← bigSep_sep', ← bigSep_sep', ← bigSep_sep']
  exact bigSep_congr fun p _ => posts1 X c p

end Cert.KernelIdeal.Cube

end
-- ==== Proof.KernelIdeal.Buffers.lean ====
/-
# The buffers, chunk by chunk

The result buffer is sixteen blocks of sixteen rows: eight the device accumulates, eight it gives away. The two landing
buffers are eight places and eight times four places. A buffer held whole is held place by place, and the other way round.
-/
module

public import proofs.«01_k».proof.Proof.KernelIdeal.Regroup
public import Idealize.ShloMosaic.Lib.Ring
public import Idealize.ShloMosaic.Lib.ViewIndex

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32)

/-! ## A memref held at contents that read the same -/

omit [FloatOps F] in
/-- To hold a memref that reads `v` is to hold its elements at any contents that read `v`. -/
theorem holds_eq (c : Dev nD) (M : Memref sig .tc .vmem S16x256 .f32) (v : Vec F S16x256 .f32)
    (f : Buf (Elt F) (M.view.loc (c : Thread nD τ))) (h : M.view.read (Elt F) f = v) :
    holds c M v ⊣⊢ (M.view.loc (c : Thread nD τ) ↦[M.view.set]{fullShare} f) := by
  constructor
  · unfold holds
    iintro ⟨%g, %hg, H⟩
    iapply (Entails.of_eq (pointsTo_congr (f := g) (g := f) fun i hi => by
      obtain ⟨x, -, rfl⟩ := Finset.mem_map.mp hi
      exact View.eq_of_read_eq (Val := Elt F) (by rw [hg, h])))
    iexact H
  · unfold holds
    iintro H
    iexists f
    isplitr; · ipureintro; exact h
    iexact H

omit [FloatOps F] in
/-- A buffer held whole at some contents is held part by part, each at some contents. -/
theorem parts_split {ℓ : Loc nD τ sig} {B : Type} [Fintype B] (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => iprop(∃ f, ℓ ↦[I b]{fullShare} f) := by
  have h (f : Buf (Elt F) ℓ) : (ℓ ↦{fullShare} f : sProp 𝕄) ⊢ bigSep Finset.univ fun b => iprop(∃ f, ℓ ↦[I b]{fullShare} f) :=
    (Entails.of_eq (Ring.pointsTo_blocks I hd hc f)).trans
      (bigSep_mono fun b _ => show iprop(ℓ ↦[I b]{fullShare} f) ⊢ iprop(∃ f, ℓ ↦[I b]{fullShare} f) from by iintro H; iexists f; iexact H)
  iintro ⟨%f, H⟩
  iapply (h f)
  iexact H

/-! ## The result buffer -/

/-- Which half of the rows a device accumulates. -/
def half (c : Dev nD) : ℕ := c.val / 16
/-- The block of sixteen rows that is chunk `p` of the accumulated half (`true`), or of the half given away (`false`). -/
def blk (c : Dev nD) (b : Bool) (p : Fin 8) : ℕ := match b with
  | true => 8 * half c + p.val
  | false => 8 * half (xDev c) + p.val

theorem off3_eq (c : Dev nD) (p : Fin 8) : k0_off3 c (chunkW p) = ![16 * blk c true p, 0] := by revert c p; decide +kernel
theorem off1_eq (c : Dev nD) (p : Fin 8) : k0_off1 c (chunkW p) = ![16 * blk c false p, 0] := by revert c p; decide +kernel
theorem blk_inj (c : Dev nD) : ∀ b b' : Bool × Fin 8, b ≠ b' → blk c b.1 b.2 ≠ blk c b'.1 b'.2 := by revert c; decide +kernel
theorem blk_surj (c : Dev nD) : ∀ n : Fin 16, ∃ b : Bool × Fin 8, blk c b.1 b.2 = n.val := by revert c; decide +kernel

/-- Sixteen rows from row `16 n` on hold the elements whose row is in the `n`-th block. -/
theorem mem_rows {o : Fin 2 → ℕ} (n : ℕ) (h : o = ![16 * n, 0]) (hi : ∀ a, o a + S16x256.size a ≤ S256x256.size a) (i : S256x256.Idx) :
    i ∈ (outM.slice (Rect.unit (s := S256x256) o S16x256.size hi) (fun _ => rfl)).view.set ↔ (i 0).val / 16 = n := by
  subst h
  have hs : (outM.slice (Rect.unit (s := S256x256) ![16 * n, 0] S16x256.size hi) (fun _ => rfl)).view.set
      = (Rect.unit (s := S256x256) ![16 * n, 0] S16x256.size hi).set := by
    refine (View.set_slice _ _).trans ?_
    exact Finset.map_refl
  rw [hs, Rect.mem_set_unit]
  have h1 := (i 1).isLt
  constructor
  · intro h
    have h0 := h 0
    simp at h0
    have e : S16x256.size 0 = 16 := rfl
    omega
  · intro h a
    fin_cases a
    · have e : S16x256.size 0 = 16 := rfl
      simp
      omega
    · have e : S16x256.size 1 = 256 := rfl
      have e' : S256x256.size 1 = 256 := rfl
      simp
      omega

/-- A chunk of the result buffer: accumulated (`true`) or given away (`false`). -/
abbrev rowsV (c : Dev nD) (b : Bool × Fin 8) : Memref sig .tc .vmem S16x256 .f32 := match b.1 with
  | true => ownV c b.2
  | false => giveV c b.2

theorem mem_rowsV (c : Dev nD) (b : Bool × Fin 8) (i : S256x256.Idx) :
    i ∈ (match b.1 with | true => (ownV c b.2).view.set | false => (giveV c b.2).view.set : Finset S256x256.Idx) ↔ (i 0).val / 16 = blk c b.1 b.2 := by
  rcases b with ⟨_ | _, p⟩
  · exact mem_rows _ (off1_eq c p) (k0_off1_inb c p) i
  · exact mem_rows _ (off3_eq c p) (k0_off3_inb c p) i

omit [FloatOps F] in
/-- The result buffer held whole is held chunk by chunk. -/
theorem out_chunks (c : Dev nD) (f : Buf (Elt F) ((c : Thread nD τ).loc cc0_stg1_0)) :
    ((c : Thread nD τ).loc cc0_stg1_0 ↦{fullShare} f : sProp 𝕄)
      = iprop((bigSep Finset.univ fun p : Fin 8 => ((ownV c p).view.loc (c : Thread nD τ) ↦[(ownV c p).view.set]{fullShare} f))
          ∗ bigSep Finset.univ fun p : Fin 8 => ((giveV c p).view.loc (c : Thread nD τ) ↦[(giveV c p).view.set]{fullShare} f)) := by
  rw [Ring.pointsTo_blocks (ℓ := (c : Thread nD τ).loc cc0_stg1_0)
    (fun b : Bool × Fin 8 => (match b.1 with | true => (ownV c b.2).view.set | false => (giveV c b.2).view.set : Finset S256x256.Idx))
    (fun b b' h => Finset.disjoint_left.mpr fun i hi hi' =>
      blk_inj c b b' h (((mem_rowsV c b i).mp hi).symm.trans ((mem_rowsV c b' i).mp hi')))
    (Finset.ext fun i => by
      simp only [Finset.mem_biUnion, Finset.mem_univ, true_and, iff_true]
      have hlt : (i 0).val / 16 < 16 := by
        have h0 : ((i : S256x256.Idx) 0).val < 256 := (i 0).isLt
        omega
      obtain ⟨b, hb⟩ := blk_surj c ⟨(i 0).val / 16, hlt⟩
      exact ⟨b, (mem_rowsV c b i).mpr hb.symm⟩) f,
    bigSep_univ_prod, bigSep_two]
  show BI.sep _ _ = BI.sep _ _
  ac_rfl

/-- The block a device starts with is held chunk by chunk. -/
theorem out_split (c : Dev nD) :
    ((c : Thread nD τ).loc cc0_stg1_0 ↦{fullShare} (X c) : sProp 𝕄)
      ⊢ iprop((bigSep Finset.univ fun p : Fin 8 => holds c (ownV c p) (own0 X c p))
          ∗ bigSep Finset.univ fun p : Fin 8 => holds c (giveV c p) (give0 X c p)) := by
  rw [out_chunks]
  exact BI.sep_mono (bigSep_mono fun p _ => (holds_eq c (ownV c p) _ _ rfl).2) (bigSep_mono fun p _ => (holds_eq c (giveV c p) _ _ rfl).2)

/-- What the result buffer holds at the end: the finished chunks of both halves, each half from the device that accumulated it. -/
def outAt (c : Dev nD) : Vec F S256x256 .f32 := fun i =>
  acc X 4 (if (i 0).val / 128 = half c then c else xDev c) ⟨(i 0).val / 16 % 8, Nat.mod_lt _ (by decide)⟩
    (fun a => match a with
      | 0 => ⟨(i 0).val % 16, Nat.mod_lt _ (by decide)⟩
      | 1 => i 1)

theorem half_xDev (c : Dev nD) : half (xDev c) ≠ half c := by revert c; decide +kernel

/-- The rows of a block read, of the final contents, the chunk the block is. -/
theorem rows_outAt {o : Fin 2 → ℕ} (c e : Dev nD) (p : Fin 8) (h : o = ![16 * (8 * half e + p.val), 0])
    (hi : ∀ a, o a + S16x256.size a ≤ S256x256.size a) (he : (if half e = half c then c else xDev c) = e) :
    (outM.slice (Rect.unit (s := S256x256) o S16x256.size hi) (fun _ => rfl)).view.read (Elt F) (outAt X c) = acc X 4 e p := by
  subst h
  funext j
  have h0 : (j 0).val < 16 := (j 0).isLt
  show outAt X c ((Rect.unit (s := S256x256) ![16 * (8 * half e + p.val), 0] S16x256.size hi).idx j) = _
  unfold outAt
  have e0 : ((Rect.unit (s := S256x256) ![16 * (8 * half e + p.val), 0] S16x256.size hi).idx j 0).val
      = 16 * (8 * half e + p.val) + 1 * (j 0).val := rfl
  have hp := p.isLt
  have hd : ((Rect.unit (s := S256x256) ![16 * (8 * half e + p.val), 0] S16x256.size hi).idx j 0).val / 128 = half e := by omega
  have hq : ((Rect.unit (s := S256x256) ![16 * (8 * half e + p.val), 0] S16x256.size hi).idx j 0).val / 16 % 8 = p.val := by omega
  have hr : ((Rect.unit (s := S256x256) ![16 * (8 * half e + p.val), 0] S16x256.size hi).idx j 0).val % 16 = (j 0).val := by omega
  rw [hd, he, show (⟨_, Nat.mod_lt _ (by decide)⟩ : Fin 8) = p from Fin.ext hq]
  congr 1
  funext a
  fin_cases a
  · exact Fin.ext hr
  · refine Fin.ext ?_
    show 0 + 1 * (j 1).val = (j 1).val
    omega

theorem own_outAt (c : Dev nD) (p : Fin 8) : (ownV c p).view.read (Elt F) (outAt X c) = acc X 4 c p :=
  rows_outAt X c c p (off3_eq c p) (k0_off3_inb c p) (if_pos rfl)
theorem give_outAt (c : Dev nD) (p : Fin 8) : (giveV c p).view.read (Elt F) (outAt X c) = acc X 4 (xDev c) p :=
  rows_outAt X c (xDev c) p (off1_eq c p) (k0_off1_inb c p) (if_neg (half_xDev c))

/-- The finished chunks are the result buffer held whole, at the final contents. -/
theorem out_join (c : Dev nD) :
    iprop((bigSep Finset.univ fun p : Fin 8 => holds c (ownV c p) (acc X 4 c p))
        ∗ bigSep Finset.univ fun p : Fin 8 => holds c (giveV c p) (acc X 4 (xDev c) p))
      ⊢ ((c : Thread nD τ).loc cc0_stg1_0 ↦{fullShare} (outAt X c) : sProp 𝕄) := by
  rw [out_chunks]
  exact BI.sep_mono (bigSep_mono fun p _ => (holds_eq c (ownV c p) _ _ (own_outAt X c p)).1)
    (bigSep_mono fun p _ => (holds_eq c (giveV c p) _ _ (give_outAt X c p)).1)

/-! ## The landing buffers -/

abbrev xrsS (p : Fin 8) : Finset S8x16x256.Idx := (xrsV p).view.set
abbrev midS (w : Fin 8 × Fin 4) : Finset S8x4x16x256.Idx := (midV w.1 w.2).view.set

theorem mem_xrs (p : Fin 8) (i : S8x16x256.Idx) : i ∈ xrsS p ↔ (i 0).val = p.val := by
  have hs : xrsS p = (xrsR p).set :=
    (View.set_reshape _ _).trans ((View.set_slice _ _).trans Finset.map_refl)
  rw [hs, Rect.mem_set_unit]
  constructor
  · intro h
    have h0 := h 0
    simp at h0
    have e : S1x16x256.size 0 = 1 := rfl
    omega
  · intro h a
    have ha := (i a).isLt
    fin_cases a
    · have e : S1x16x256.size 0 = 1 := rfl
      simp
      omega
    · exact ⟨Nat.zero_le _, lt_of_lt_of_le ha (le_of_eq (Nat.zero_add _).symm)⟩
    · exact ⟨Nat.zero_le _, lt_of_lt_of_le ha (le_of_eq (Nat.zero_add _).symm)⟩

theorem mem_mid (w : Fin 8 × Fin 4) (i : S8x4x16x256.Idx) : i ∈ midS w ↔ (i 0).val = w.1.val ∧ (i 1).val = w.2.val := by
  obtain ⟨p, t⟩ := w
  have hs : midS (p, t) = (midR p t).set :=
    (View.set_reshape _ _).trans ((View.set_slice _ _).trans Finset.map_refl)
  rw [hs, Rect.mem_set_unit]
  constructor
  · intro h
    have h0 := h 0
    have h1 := h 1
    show (i 0).val = p.val ∧ (i 1).val = t.val
    simp at h0 h1
    have e : S1x1x16x256.size 0 = 1 := rfl
    have e : S1x1x16x256.size 1 = 1 := rfl
    omega
  · rintro ⟨h, h'⟩ a
    replace h : (i 0).val = p.val := h
    replace h' : (i 1).val = t.val := h'
    have ha := (i a).isLt
    fin_cases a
    · have e : S1x1x16x256.size 0 = 1 := rfl
      simp
      omega
    · have e : S1x1x16x256.size 1 = 1 := rfl
      simp
      omega
    · exact ⟨Nat.zero_le _, lt_of_lt_of_le ha (le_of_eq (Nat.zero_add _).symm)⟩
    · exact ⟨Nat.zero_le _, lt_of_lt_of_le ha (le_of_eq (Nat.zero_add _).symm)⟩

theorem xrs_disjoint (p p' : Fin 8) (h : p ≠ p') : Disjoint (xrsS p) (xrsS p') :=
  Finset.disjoint_left.mpr fun i hi hi' => h (Fin.ext (((mem_xrs p i).mp hi).symm.trans ((mem_xrs p' i).mp hi')))
theorem xrs_cover : Finset.univ.biUnion (fun p : Fin 8 => xrsS p) = Finset.univ :=
  Finset.ext fun i => by
    simp only [Finset.mem_biUnion, Finset.mem_univ, true_and, iff_true]
    exact ⟨i 0, (mem_xrs (i 0) i).mpr rfl⟩
theorem mid_disjoint (w w' : Fin 8 × Fin 4) (h : w ≠ w') :
    Disjoint (midS w) (midS w') :=
  Finset.disjoint_left.mpr fun i hi hi' => h (Prod.ext (Fin.ext (((mem_mid w i).mp hi).1.symm.trans ((mem_mid w' i).mp hi').1)) (Fin.ext (((mem_mid w i).mp hi).2.symm.trans ((mem_mid w' i).mp hi').2)))
theorem mid_cover : Finset.univ.biUnion (fun w : Fin 8 × Fin 4 => midS w) = Finset.univ :=
  Finset.ext fun i => by
    simp only [Finset.mem_biUnion, Finset.mem_univ, true_and, iff_true]
    exact ⟨(i 0, i 1), (mem_mid (i 0, i 1) i).mpr ⟨rfl, rfl⟩⟩

omit [FloatOps F] in
theorem xrs_split (c : Dev nD) :
    (iprop(∃ f, ((c : Thread nD τ).loc cc0_scratch0) ↦{fullShare} f) : sProp 𝕄) ⊢ bigSep Finset.univ fun p : Fin 8 => anyAt c (xrsV p) :=
  parts_split (ℓ := (c : Thread nD τ).loc cc0_scratch0) (fun p : Fin 8 => xrsS p) xrs_disjoint xrs_cover

omit [FloatOps F] in
theorem mid_split (c : Dev nD) :
    (iprop(∃ f, ((c : Thread nD τ).loc cc0_scratch1) ↦{fullShare} f) : sProp 𝕄)
      ⊢ bigSep Finset.univ fun p : Fin 8 => bigSep Finset.univ fun t : Fin 4 => anyAt c (midV p t) := by
  rw [← bigSep_univ_prod fun w : Fin 8 × Fin 4 => anyAt (F := F) c (midV w.1 w.2)]
  exact parts_split (ℓ := (c : Thread nD τ).loc cc0_scratch1) (fun w : Fin 8 × Fin 4 => midS w) mid_disjoint mid_cover

omit [FloatOps F] in
theorem xrs_join (c : Dev nD) (f₀ : Buf (Elt F) ((c : Thread nD τ).loc cc0_scratch0)) :
    (bigSep Finset.univ fun p : Fin 8 => anyAt c (xrsV p)) ⊢ (iprop(∃ f, ((c : Thread nD τ).loc cc0_scratch0) ↦{fullShare} f) : sProp 𝕄) :=
  Ring.pointsTo_blocks_join_exists (ℓ := (c : Thread nD τ).loc cc0_scratch0) (fun p : Fin 8 => xrsS p) xrs_disjoint xrs_cover f₀

omit [FloatOps F] in
theorem mid_join (c : Dev nD) (f₀ : Buf (Elt F) ((c : Thread nD τ).loc cc0_scratch1)) :
    (bigSep Finset.univ fun p : Fin 8 => bigSep Finset.univ fun t : Fin 4 => anyAt c (midV p t))
      ⊢ (iprop(∃ f, ((c : Thread nD τ).loc cc0_scratch1) ↦{fullShare} f) : sProp 𝕄) := by
  rw [← bigSep_univ_prod fun w : Fin 8 × Fin 4 => anyAt (F := F) c (midV w.1 w.2)]
  exact Ring.pointsTo_blocks_join_exists (ℓ := (c : Thread nD τ).loc cc0_scratch1) (fun w : Fin 8 × Fin 4 => midS w) mid_disjoint mid_cover f₀

end Cert.KernelIdeal.Cube

end
-- ==== Proof.KernelIdeal.Body.lean ====
/-
# The body

A device starts with its tokens, its credits and its buffers, signals its five partners, copies its block into the
result buffer, waits for the five signals, and takes the steps. It ends with the result buffer at `outAt`, its
scratch buffers, and all its semaphores at zero.
-/
module

public import proofs.«01_k».proof.Proof.KernelIdeal.Sweep
public import proofs.«01_k».proof.Proof.KernelIdeal.Buffers

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S256x256 .f32) (K : Dev nD × Cx → ℕ)

/-! ## The handshake -/

/-- A signal to the partner `d`: the unit owed to that partner's barrier, with the landing places for it. -/
theorem wp_meet (c : Dev nD) (d : Fin 5) (n : Dev nD) (hn : n = pal d c) (O : CellTallies nD τ sig Unit)
    {α : Type} {Q : α → sProp 𝕄} {k : PUnit → Prog (TpuEff nD τ sig (Elt F) Λ₀ .tc) α} :
    iprop(recs X K ∗ owesE c (O + tallyAt (barCell (pal d c)) () 1) ∗ dutyTok ER (barCell (pal d c)) 0 d ∗ barPay (pal d c) d)
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n : Dev nD), .tc) barS (1#32 : BitVec 32).toInt) k) Q) := by
  subst hn
  iintro ⟨#HR, Ho, Ht, Hp⟩ Hk
  unfold owesE
  icases Ho with ⟨%W, HO⟩
  ihave #HI := (recs_inv X K (pal d c) none) $$ HR
  ihave #Hr := (recs_reached X K (pal d c) none) $$ HR
  iapply (Rounds.wp_signal 𝒱₀ ER (Rd X) (c : Thread nD τ) none (dst := (pal d c : Thread nD τ)) (κ := K (pal d c, none))
      (d := d) (by rw [duties_bar]; exact Finset.mem_univ _) ((amount_bar X (pal d c) d).trans (by decide)) () O rfl)
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

theorem order_rank : ∀ y ∈ order, ∀ e, y.2 = St.send e → 1 < rank e := fun _ _ e _ => rank_ge e

/-- The wait for the five signals: a landing place for every transfer, and the barrier's semaphore closed. -/
theorem wp_met (c : Dev nD)
    {α : Type} {Q : α → sProp 𝕄} {k : PUnit → Prog (TpuEff nD τ sig (Elt F) Λ₀ .tc) α} :
    iprop(recs X K ∗ levAts L lv ∗ owesE c (owed c order) ∗ cred (tallyAt (barCell c) () 5) ∗ atPos ER (barCell c) 0 ∅ 0)
      ⊢ iprop(((owesE c (owed c order) ∗ semVal (barCell c) 0 ∗ bigSep Finset.univ (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (5#32 : BitVec 32).toInt) k) Q) := by
  iintro ⟨#HR, #Hlev, Ho, Hc, Hat⟩ Hk
  unfold owesE
  icases Ho with ⟨%W, HO⟩
  ihave #HI := (recs_inv X K c none) $$ HR
  iapply (Rounds.wp_wait_rest_token 𝒱₀ ER (Rd X) (c : Thread nD τ) none (κ := K (c, none))
      (wpE_semWait_eq 𝒱₀ (c : Thread nD τ) none Set.univ) (Set.mem_univ _) () (O := owed c order) (W := W) (R := 0) (m := 0) (T := ∅)
      (by rw [expect_bar]; decide)) $$ [Hc HO Hat]
  · isplitr; · iexact HI
    isplitl [Hc]; · iexact Hc
    isplitl [HO]; · iexact HO
    isplitr; · iapply (mayWait_owed c (.reg barS) order 1 (by rw [lv_bar]) order_rank); iexact Hlev
    iexact Hat
  iintro ⟨HO, Hat, -, Hpay⟩
  ihave Hp := (Entails.of_eq (rest_bar X c)) $$ Hpay
  imod (Rounds.cell_close ER (Rd X) (Set.mem_univ (K (c, none))) (fun h => h) (R := 0 + 1) (duties_later X (barCell c))) $$ [Hat] with Hz
  · isplitr; · iexact HI
    iexact Hat
  iapply Hk
  isplitl [HO]; · iexists _; iexact HO
  isplitl [Hz] <;> iassumption

/-! ## The whole body -/

/-- What the launch deals a device for its protocol. -/
def kit (c : Dev nD) : sProp 𝕄 :=
  iprop(atPos ER (barCell c) 0 ∅ 0 ∗ cred (tallyAt (barCell c) () 5)
    ∗ (bigSep Finset.univ fun d : Fin 5 => dutyTok ER (barCell (pal d c)) 0 d)
    ∗ bigSep Finset.univ fun p : Fin 8 => bigSep Finset.univ (gear (F := F) c p))

/-- The two scratch buffers, whatever they hold. -/
def scratch (c : Dev nD) : sProp 𝕄 :=
  iprop((∃ f, ((c : Thread nD τ).loc cc0_scratch0) ↦{fullShare} f) ∗ (∃ f, ((c : Thread nD τ).loc cc0_scratch1) ↦{fullShare} f))

/-- What a device ends with, beside its blocks. -/
def ended (c : Dev nD) : sProp 𝕄 :=
  iprop(scratch (F := F) c ∗ (bigSep Finset.univ fun w : Wx => semVal (cell c w) 0) ∗ semVal (barCell c) 0)

omit [FloatOps F] in
theorem bigSep_five' (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- The scratch buffers are the landing places a device hands its partners. -/
theorem scratch_split (c : Dev nD) : scratch (F := F) c ⊢ bigSep Finset.univ fun d : Fin 5 => barPay (F := F) (pal d c) d := by
  rw [lands_given]
  exact BI.sep_mono (xrs_split c) (mid_split c)

omit [FloatOps F] in
theorem hz2 : (![0, 0] : Fin 2 → Nat) = fun _ => 0 := funext fun a => by fin_cases a <;> rfl
omit [FloatOps F] in
theorem hz5 : (![0, 0, 0, 0, 0] : Fin 5 → Nat) = fun _ => 0 := funext fun a => by fin_cases a <;> rfl

abbrev inR : Rect S1x1x1x256x256 := Rect.unit (s := S1x1x1x256x256) ![0, 0, 0, 0, 0] S1x1x1x256x256.size inb_S1x1x1x256x256_S1x1x1x256x256_0_0_0_0_0
abbrev outR : Rect S256x256 := Rect.unit (s := S256x256) ![0, 0] S256x256.size inb_S256x256_S256x256_0_0

omit [FloatOps F] in
theorem read_in (f : (cc0_stg0_0 : Ref sig .tc).ty.Contents (Elt F)) : inM.view.readAt (Elt F) inR.toLoadRect f = f :=
  Memref.readAt_unit_zero (Elt F) cc0_stg0_0 hz5 _ f
omit [FloatOps F] in
theorem write_out (f w : (cc0_stg1_0 : Ref sig .tc).ty.Contents (Elt F)) :
    (outM.access outR : View sig .tc _ _ _).write (Elt F) f w Finset.univ = w :=
  Memref.write_access_unit_zero_univ (Elt F) cc0_stg1_0 hz2 _ f w

/-- The chunks finished and returned, the landing places and the closed semaphores make up a device's end. -/
theorem wp_rest (c : Dev nD) (Q : PUnit → sProp 𝕄) :
    iprop(recs X K ∗ levAts L lv ∗ owesE c (owed c order) ∗ (bigSep Finset.univ fun p : Fin 8 => bigSep Finset.univ (gear (F := F) c p))
        ∗ bigSep Finset.univ (barPay (F := F) c) ∗ semVal (barCell c) 0 ∗ (((c : Thread nD τ).loc cc0_stg1_0) ↦{fullShare} X c))
      ⊢ iprop(((owesE c 0 ∗ ended (F := F) c ∗ (((c : Thread nD τ).loc cc0_stg1_0) ↦{fullShare} outAt X c)) -∗ Q ⟨⟩)
          -∗ wp frame (wpE (defs₀ (F := F)) 𝒱₀ (c : Thread nD τ) none) Set.univ (steps c order) Q) := by
  have hf : (bigSep Finset.univ fun p : Fin 8 => flow X c p (head p order)) = bigSep Finset.univ fun p : Fin 8 => holds c (ownV c p) (own0 X c p) :=
    bigSep_congr fun p _ => by rw [head_order]; rfl
  have hf' : (bigSep Finset.univ fun p : Fin 8 => flow X c p none) = bigSep Finset.univ fun p : Fin 8 => holds c (ownV c p) (acc X 4 c p) := rfl
  have hsplit := out_split X c
  have hjoin := out_join X c
  iintro ⟨#HR, #Hlev, Ho, Hgear, Hbar, Hz, Hout⟩ Hk
  ihave Hl := (Entails.of_eq (lands_taken (F := F) c)) $$ Hbar
  icases Hl with ⟨Hxl, Hml⟩
  ihave Hs := hsplit $$ Hout
  icases Hs with ⟨Hown, Hgive⟩
  iapply (wp_steps X K c order order_inOrder Q) $$ [Ho Hgear Hxl Hml Hown Hgive]
  · isplitr; · iexact HR
    isplitr; · iexact Hlev
    isplitl [Ho]; · iexact Ho
    isplitl [Hgear Hxl Hml Hgive]
    · iapply (Entails.of_eq (pres X c).symm)
      isplitl [Hgear]; · iexact Hgear
      isplitl [Hxl]; · iexact Hxl
      isplitl [Hgive]; · iexact Hgive
      iexact Hml
    iapply (Entails.of_eq hf.symm); iexact Hown
  iintro ⟨Ho, Hpost, Hflow⟩
  ihave Hp := (Entails.of_eq (posts X c)) $$ Hpost
  icases Hp with ⟨Hzs, Hback, Hxs, Hms⟩
  ihave Hfl := (Entails.of_eq hf') $$ Hflow
  iapply Hk
  isplitl [Ho]; · iexact Ho
  isplitl [Hzs Hxs Hms Hz]
  · unfold ended scratch
    isplitl [Hxs Hms]
    · isplitl [Hxs]
      · iapply (xrs_join c (fun _ => Inhabited.default)); iexact Hxs
      · iapply (mid_join c (fun _ => Inhabited.default)); iexact Hms
    isplitl [Hzs] <;> iassumption
  iapply hjoin
  isplitl [Hfl] <;> iassumption

/-- The body, from a device's start to its end. -/
theorem wp_body (c : Dev nD) (g : (cc0_stg0_0 : Ref sig .tc).ty.Contents (Elt F)) (hg : k0_pay1 g = X c) (Q : PUnit → sProp 𝕄) :
    iprop(recs X K ∗ levAts L lv ∗ owesE c (O₀ c) ∗ kit (F := F) c ∗ scratch (F := F) c
        ∗ (((c : Thread nD τ).loc cc0_stg0_0) ↦{fullShare} g) ∗ ∃ f, (((c : Thread nD τ).loc cc0_stg1_0) ↦{fullShare} f))
      ⊢ iprop(((owesE c 0 ∗ ended (F := F) c ∗ (((c : Thread nD τ).loc cc0_stg0_0) ↦{fullShare} g) ∗ (((c : Thread nD τ).loc cc0_stg1_0) ↦{fullShare} outAt X c)) -∗ Q ⟨⟩)
          -∗ wp frame (wpE (defs₀ (F := F)) 𝒱₀ (c : Thread nD τ) none) Set.univ
            (cc0_body inM (Memref.isWhole_whole _) outM (Memref.isWhole_whole _) xrsM (Memref.isWhole_whole _) midM (Memref.isWhole_whole _)
              cc0_scratch2 cc0_scratch3 cc0_scratch4 cc0_scratch5 cc0_scratch6 cc0_scratch7) Q) := by
  rw [body_eq]
  unfold prelude
  simp only [semSignalWord, semWaitWord, Prog.lift, Prog.bind_op, Prog.bind_ret, Prog.pure_eq_ret, wp_deviceId]
  unfold kit O₀
  iintro ⟨#HR, #Hlev, Ho, ⟨Hat, Hc, Htok, Hgear⟩, Hscr, Hin, ⟨%f, Hout⟩⟩ Hk
  ihave Ht := (Entails.of_eq (bigSep_five' fun d : Fin 5 => dutyTok ER (barCell (pal d c)) 0 d)) $$ Htok
  icases Ht with ⟨Ht0, Ht1, Ht2, Ht3, Ht4⟩
  ihave Hp := ((scratch_split c).trans (Entails.of_eq (bigSep_five' fun d : Fin 5 => barPay (F := F) (pal d c) d))) $$ Hscr
  icases Hp with ⟨Hp0, Hp1, Hp2, Hp3, Hp4⟩
  iapply (wp_meet X K c 0 _ rfl _) $$ [Ho Ht0 Hp0]
  · isplitr; · iexact HR
    isplitl [Ho]; · iexact Ho
    isplitl [Ht0] <;> iassumption
  iintro Ho
  iapply (wp_meet X K c 1 _ rfl _) $$ [Ho Ht1 Hp1]
  · isplitr; · iexact HR
    isplitl [Ho]; · iexact Ho
    isplitl [Ht1] <;> iassumption
  iintro Ho
  iapply (wp_meet X K c 2 _ rfl _) $$ [Ho Ht2 Hp2]
  · isplitr; · iexact HR
    isplitl [Ho]; · iexact Ho
    isplitl [Ht2] <;> iassumption
  iintro Ho
  iapply (wp_meet X K c 3 _ rfl _) $$ [Ho Ht3 Hp3]
  · isplitr; · iexact HR
    isplitl [Ho]; · iexact Ho
    isplitl [Ht3] <;> iassumption
  iintro Ho
  iapply (wp_meet X K c 4 _ rfl _) $$ [Ho Ht4 Hp4]
  · isplitr; · iexact HR
    isplitl [Ho]; · iexact Ho
    isplitl [Ht4] <;> iassumption
  iintro Ho
  iapply (wp_load 𝒱₀ (c : Thread nD τ) none Set.univ (m := inM) (Finset.subset_univ _)) $$ Hin; iintro Hin
  rw [read_in, hg]
  iapply (wp_load 𝒱₀ (c : Thread nD τ) none Set.univ (m := outM) (Finset.subset_univ _)) $$ Hout; iintro Hout
  iapply (wp_store 𝒱₀ (c : Thread nD τ) none Set.univ (m := outM) (r := outR) (Mk := Finset.univ) (Finset.subset_univ _)) $$ Hout; iintro Hout
  rw [write_out]
  iapply (wp_met X K c) $$ [Ho Hc Hat]
  · isplitr; · iexact HR
    isplitr; · iexact Hlev
    isplitl [Ho]; · iexact Ho
    isplitl [Hc] <;> iassumption
  iintro ⟨Ho, Hz, Hbar⟩
  iapply (wp_rest X K c Q) $$ [Ho Hgear Hbar Hz Hout]
  · isplitr; · iexact HR
    isplitr; · iexact Hlev
    isplitl [Ho]; · iexact Ho
    isplitl [Hgear]; · iexact Hgear
    isplitl [Hbar]; · iexact Hbar
    isplitl [Hz] <;> iassumption
  iintro ⟨Ho, He, Hout⟩
  iapply Hk
  isplitl [Ho]; · iexact Ho
  isplitl [He]; · iexact He
  isplitl [Hin] <;> iassumption

end Cert.KernelIdeal.Cube

end
-- ==== Proof.KernelIdeal.Deal.lean ====
/-
# What the launch deals out

The pipeline's data of one device, with the body's obligation. Then the ghost state of the protocol at the launch: every
device's semaphores as cells with their round, and the tokens of their duties.
-/
module

public import proofs.«01_k».proof.Proof.KernelIdeal.Body

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, every semaphore at zero. -/
def s₀ : MemSt nD τ sig (Elt F) := ⟨m, fun _ => 0, ρ⟩

/-- The block device `c` stages, and the same as the rows and columns of the result. -/
def xstg (c : Dev nD) : (cc0_stg0_0 : Ref sig .tc).ty.Contents (Elt F) :=
  (win0_0.blk t0_0).view.read (Elt F) ((s₀ m ρ).mem ((c : Thread nD τ).loc main_arg0))
def start0 (c : Dev nD) : Vec F S256x256 .f32 := k0_pay1 (xstg m ρ c)

/-! ## The pipeline's data and the body's obligation -/

def devStart (c : Dev nD) : sProp 𝕄 := iprop((∃ K, recs (start0 m ρ) K) ∗ levAts L lv ∗ kit (F := F) c)
def Φ₀ (c : Dev nD) : sProp 𝕄 := iprop(devStart m ρ c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (start0 m ρ) c
  Φ t := match t with
    | ⟨0, _⟩ => Φ₀ m ρ c
    | ⟨_ + 1, _⟩ => ended (F := F) c
  q _ := fullShare
  owed t := match t with
    | ⟨0, _⟩ => O₀ c
    | ⟨_ + 1, _⟩ => 0

theorem fetch_in (t : Fin cfg0.N) : (cfg0.win (0 : Fin 2)).fetch t = true := by rw [fin_N0 t]; rfl

omit [FloatOps F] in
theorem owns_all (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 8000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 8000 in
def bodyPost (c : Dev nD) : sProp 𝕄 :=
  iprop(ended (F := F) c ∗ (dats m ρ 0 c).owesAt () t0_0.succ ∗ stg c cc0_stg0_0 (xstg m ρ c) ∗ stg c cc0_stg1_0 (outAt (start0 m ρ) c))

set_option maxRecDepth 65536 in
/-- The body on device `c` does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_all]
  show bodyPre m ρ c ⊢ wp frame (wpE (defs₀ (F := F)) 𝒱₀ c none) Set.univ
    (cc0_body inM (Memref.isWhole_whole _) outM (Memref.isWhole_whole _) xrsM (Memref.isWhole_whole _) midM (Memref.isWhole_whole _)
      cc0_scratch2 cc0_scratch3 cc0_scratch4 cc0_scratch5 cc0_scratch6 cc0_scratch7) (fun _ => bodyPost m ρ c)
  unfold bodyPre Φ₀ devStart
  iintro ⟨⟨⟨⟨%K, #HR⟩, #Hlev, Hkit⟩, Hscr⟩, Ho, ⟨%d0, %g0, %hg0, Hx⟩, ⟨%d1, %g1, %hg1, Hout⟩⟩
  have hx : g0 = xstg m ρ c := by rw [hg0]; unfold Dat.before; rw [if_pos (fetch_in t0_0)]; rfl
  subst hx
  unfold Dat.owesAt Pipeline.owesWithin
  icases Ho with ⟨%W, %hW, HO⟩
  iapply (wp_body (start0 m ρ) K c (xstg m ρ c) rfl fun _ => bodyPost m ρ c) $$ [HO Hkit Hscr Hx Hout]
  · isplitr; · iexact HR
    isplitr; · iexact Hlev
    isplitl [HO]; · unfold owesE; iexists W; iexact HO
    isplitl [Hkit]; · iexact Hkit
    isplitl [Hscr]; · iexact Hscr
    isplitl [Hx]; · iexact Hx
    iexists g1; iexact Hout
  unfold owesE bodyPost Dat.owesAt Pipeline.owesWithin
  iintro ⟨⟨%W', HO⟩, He, Hx, Hout⟩
  isplitl [He]; · iexact He
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The launch's ghost state -/

abbrev osem (w : Wx) : SemLoc sig := .dma (dsem w)

theorem stage_named : ∀ (w : Fin 2) (s : Fin (cfg0.win w).nbuf), named ((cfg0.win w).sem s) = none := by decide

theorem dsem_scoped : ∀ w : Wx, (osem w).isScoped .tc = true := by decide +kernel

theorem ownSemFacts : Pipeline.OwnSemFacts cfg0.spec osem :=
  ⟨dsem_scoped, fun w w' h => dsem_injective (SemLoc.dma.inj h), fun k w s h => by
    have h1 := stage_named w s
    rw [← SemLoc.dma.inj h, named_dsem] at h1
    exact absurd h1 (by simp)⟩

theorem share_eq (c : Dev nD) (w : Fin cfg0.W) : (dats m ρ 0 c).share w = fullShare := by unfold Dat.share; split <;> rfl

theorem csem_injective : Function.Injective csem := by
  rintro (_ | w) (_ | w') h
  · rfl
  · exact absurd h (by intro h; cases h)
  · exact absurd h (by intro h; cases h)
  · exact congrArg some (dsem_injective (SemLoc.dma.inj h))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of a device's cells: five at its barrier, one at each transfer semaphore. -/
abbrev Tok : Type := Fin 5 ⊕ Wx
abbrev tokOf (ct : Dev nD × Tok) : GSem nD τ sig × ℕ × Fin 5 := match ct.2 with
  | .inl d => (barCell ct.1, 0, d)
  | .inr w => (cell ct.1 w, 0, 0)
theorem tokOf_injective : Function.Injective tokOf := by
  rintro ⟨c, t⟩ ⟨c', t'⟩ h
  have h1 : c = c' := by
    have := congrArg (fun x : GSem nD τ sig × ℕ × Fin 5 => x.1.1.1) h
    rcases t with d | w <;> rcases t' with d' | w' <;> exact this
  have h2 : t = t' := by
    rcases t with d | w <;> rcases t' with d' | w'
    · exact congrArg Sum.inl (congrArg (fun x : GSem nD τ sig × ℕ × Fin 5 => x.2.2) h)
    · have h3 := congrArg (fun x : GSem nD τ sig × ℕ × Fin 5 => x.1.2) h
      cases h3
    · have h3 := congrArg (fun x : GSem nD τ sig × ℕ × Fin 5 => x.1.2) h
      cases h3
    · exact congrArg Sum.inr (dsem_injective (SemLoc.dma.inj (congrArg (fun x : GSem nD τ sig × ℕ × Fin 5 => x.1.2) h)))
  rw [h1, h2]
def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 5 => dutyTok ER (barCell c) 0 d) ∗ bigSep Finset.univ fun w : Wx => dutyTok ER (cell c w) 0 0)

/-- What the launch deals a device. -/
def G (c : Dev nD) : sProp 𝕄 :=
  iprop((bigSep Finset.univ fun k : Cx => roundState ER (Rd (start0 m ρ)) (kcell (c, k)) 0)
    ∗ (bigSep Finset.univ fun k : Cx => iprop(atPos ER (kcell (c, k)) 0 ∅ 0 ∗ reached ER (kcell (c, k)) 0)) ∗ toks c)

omit [FloatOps F] in
theorem bigSep_opt (Φ : Cx → sProp 𝕄) : bigSep Finset.univ Φ = iprop(Φ none ∗ bigSep Finset.univ fun w : Wx => Φ (some w)) := by
  rw [bigSep_univ_equiv (Equiv.optionEquivSumPUnit.{0, 0} Wx).symm Φ, bigSep_univ_sum,
    bigSep_univ_eq_bigSepL [PUnit.unit] (by decide) (by decide) fun b : PUnit => Φ ((Equiv.optionEquivSumPUnit.{0, 0} Wx).symm (Sum.inr b))]
  show BI.sep (bigSep Finset.univ fun w : Wx => Φ (some w)) (Φ none) = BI.sep (Φ none) (bigSep Finset.univ fun w : Wx => Φ (some w))
  ac_rfl

/-- The launch element makes all of it. -/
theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd (start0 m ρ)) allCells allToks) $$ HX with ⟨Hst, Hr, Hat, Htok⟩
  imodintro
  ihave Hst' := (Entails.of_eq (hX fun g => roundState ER (Rd (start0 m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Cert.KernelIdeal.Cube

end
-- ==== Proof.KernelIdeal.Run.lean ====
/-
# The run

At the launch every device's semaphores become cells with their round of duties, the tokens of the duties go to the devices
that pay them, and the credits to the devices that wait. From there the launch theorem takes each device's body to
its end: the kernel terminates, the input array is what it was, the result array holds what the body computes, and
every semaphore is at zero.
-/
module

public import proofs.«01_k».proof.Proof.KernelIdeal.Deal
public import Idealize.ShloMosaic.Lib.Pipeline.CollectiveSegs

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Tokens go to the payers -/

/-- The tokens of the duties device `c` pays: at its partners' barriers, and for every exchange at its own sender's cell and
    at the receiver's cell of the device the exchange is with. -/
def payToks (c : Dev nD) : sProp 𝕄 :=
  iprop((bigSep Finset.univ fun d : Fin 5 => dutyTok ER (barCell (pal d c)) 0 d)
    ∗ (bigSep Finset.univ fun p : Fin 8 => bigSep Finset.univ fun e : Ex => dutyTok ER (cell c (p, false, e)) 0 0)
    ∗ bigSep Finset.univ fun p : Fin 8 => bigSep Finset.univ fun e : Ex => dutyTok ER (cell (peer p e c) (p, true, e)) 0 0)

omit [FloatOps F] in
theorem toks_pal : (bigSep Finset.univ fun c : Dev nD => bigSep Finset.univ fun d : Fin 5 => (dutyTok ER (barCell c) 0 d : sProp 𝕄))
    = bigSep Finset.univ fun c : Dev nD => bigSep Finset.univ fun d : Fin 5 => dutyTok ER (barCell (pal d c)) 0 d := by
  rw [bigSep_univ_comm, bigSep_univ_comm fun (c : Dev nD) (d : Fin 5) => (dutyTok ER (barCell (pal d c)) 0 d : sProp 𝕄)]
  exact bigSep_congr fun d _ => bigSep_univ_equiv (palEquiv d) fun c : Dev nD => (dutyTok ER (barCell c) 0 d : sProp 𝕄)

omit [FloatOps F] in
theorem toks_peer : (bigSep Finset.univ fun c : Dev nD => bigSep Finset.univ fun p : Fin 8 => bigSep Finset.univ fun e : Ex => (dutyTok ER (cell c (p, true, e)) 0 0 : sProp 𝕄))
    = bigSep Finset.univ fun c : Dev nD => bigSep Finset.univ fun p : Fin 8 => bigSep Finset.univ fun e : Ex => dutyTok ER (cell (peer p e c) (p, true, e)) 0 0 := by
  rw [bigSep_univ_comm, bigSep_univ_comm fun (c : Dev nD) (p : Fin 8) => bigSep Finset.univ fun e : Ex => (dutyTok ER (cell (peer p e c) (p, true, e)) 0 0 : sProp 𝕄)]
  refine bigSep_congr fun p _ => ?_
  rw [bigSep_univ_comm, bigSep_univ_comm fun (c : Dev nD) (e : Ex) => (dutyTok ER (cell (peer p e c) (p, true, e)) 0 0 : sProp 𝕄)]
  exact bigSep_congr fun e _ => bigSep_univ_equiv (peerEquiv p e) fun c : Dev nD => (dutyTok ER (cell c (p, true, e)) 0 0 : sProp 𝕄)

omit [FloatOps F] in
theorem bigSep_Wx (Φ : Wx → sProp 𝕄) : bigSep Finset.univ Φ
    = iprop((bigSep Finset.univ fun p : Fin 8 => bigSep Finset.univ fun e : Ex => Φ (p, false, e))
        ∗ bigSep Finset.univ fun p : Fin 8 => bigSep Finset.univ fun e : Ex => Φ (p, true, e)) := by
  rw [bigSep_univ_prod, ← bigSep_sep']
  refine bigSep_congr fun p _ => ?_
  rw [bigSep_univ_prod fun w : Bool × Ex => Φ (p, w), bigSep_two]

omit [FloatOps F] in
theorem toks_around : (bigSep Finset.univ fun c : Dev nD => (toks c : sProp 𝕄)) = bigSep Finset.univ fun c : Dev nD => payToks c := by
  unfold toks payToks
  rw [bigSep_sep', bigSep_sep', bigSep_sep', toks_pal, ← toks_peer,
    bigSep_congr (s := Finset.univ) fun (c : Dev nD) _ => bigSep_Wx fun w : Wx => (dutyTok ER (cell c w) 0 0 : sProp 𝕄), bigSep_sep']

/-! ## Credits go to the waiters -/

theorem owed_sum (c : Dev nD) : owed c order = ∑ x : Fin 8 × St, tal c x := by
  unfold owed
  rw [← List.sum_toFinset _ order_nodup]
  exact Finset.sum_congr (Finset.ext fun x => by simpa using mem_order x) fun _ _ => rfl

omit [FloatOps F] in
/-- When every device owes `n` to the device a permutation takes it to, every device is owed `n`. -/
theorem cred_back (e : Dev nD ≃ Dev nD) (he : ∀ d, e (e d) = d) (sm : SemLoc sig) (n : ℕ) (c : Dev nD) :
    (Pipeline.launchCred (fun d : Dev nD => (tallyAt ((e d : Thread nD τ), sm) () n : CellTallies nD τ sig Unit)) c : sProp 𝕄)
      ⊢ cred (tallyAt ((c : Thread nD τ), sm) () n) := by
  refine (Pipeline.launchCred_elim _ c sm).trans (Entails.of_eq ?_)
  have h : (tallyOn ((c : Thread nD τ), sm) (launchCredit (Pipeline.owing fun d : Dev nD => (tallyAt ((e d : Thread nD τ), sm) () n : CellTallies nD τ sig Unit)) 0 ((c : Thread nD τ), sm)) : CellTallies nD τ sig Unit)
      = tallyAt ((c : Thread nD τ), sm) () n := by
    unfold tallyAt
    refine congrArg _ (Finsupp.ext fun u => ?_)
    cases u
    rw [Pipeline.launchCredit_owing, Finsupp.single_eq_same, Finset.sum_eq_single (e c)]
    · show (tallyAt ((e (e c) : Thread nD τ), sm) () n : CellTallies nD τ sig Unit) ((c : Thread nD τ), sm) () = n
      rw [tallyAt_apply, if_pos ⟨by rw [he], rfl⟩]
    · intro d _ hd
      show (tallyAt ((e d : Thread nD τ), sm) () n : CellTallies nD τ sig Unit) ((c : Thread nD τ), sm) () = 0
      rw [tallyAt_apply, if_neg]
      rintro ⟨h1, -⟩
      have h2 : c = e d := congrArg (fun g : GSem nD τ sig => g.1.1) h1
      exact hd (by rw [h2, he])
    · exact fun h => absurd (Finset.mem_univ _) h
  rw [h]

/-- The credit a device waits with, for a step. -/
def due (c : Dev nD) (p : Fin 8) : St → sProp 𝕄
  | .send e => cred (tallyAt (cell c (p, true, e)) () N)
  | .done _ => iprop(emp)
  | .recv _ => iprop(emp)
  | .addX => iprop(emp)
  | .addM _ => iprop(emp)

omit [FloatOps F] in
theorem cred_step (c : Dev nD) (x : Fin 8 × St) : (Pipeline.launchCred (fun d => tal d x) c : sProp 𝕄) ⊢ due c x.1 x.2 := by
  rcases x with ⟨p, e | e | e | _ | t⟩
  · exact cred_back (peerEquiv p e) (peer_peer p e) (.dma (dsem (p, true, e))) N c
  all_goals
    show _ ⊢ iprop(emp)
    iintro -
    iempintro

omit [FloatOps F] in
theorem cred_pal (d : Fin 5) (c : Dev nD) :
    (Pipeline.launchCred (fun b => (tallyAt (barCell (pal d b)) () 1 : CellTallies nD τ sig Unit)) c : sProp 𝕄) ⊢ cred (tallyAt (barCell c) () 1) :=
  cred_back (palEquiv d) (pal_pal d) (.reg barS) 1 c

omit [FloatOps F] in
theorem dues (c : Dev nD) : (bigSep Finset.univ fun x : Fin 8 × St => due (F := F) c x.1 x.2)
    = bigSep Finset.univ fun p : Fin 8 => bigSep Finset.univ fun e : Ex => cred (tallyAt (cell c (p, true, e)) () N) := by
  rw [bigSep_univ_prod]
  refine bigSep_congr fun p _ => ?_
  rw [bigSep_St]
  show iprop((bigSep Finset.univ fun e => cred (tallyAt (cell c (p, true, e)) () N)) ∗ (bigSep Finset.univ fun _ : Ex => iprop(emp)) ∗ (bigSep Finset.univ fun _ : Ex => iprop(emp))
    ∗ iprop(emp) ∗ bigSep Finset.univ fun _ : Fin 4 => iprop(emp)) = _
  rw [bigSep_none, bigSep_none, emp_left, emp_left, emp_left, emp_right]

omit [FloatOps F] in
theorem creds_steps (c : Dev nD) : (Pipeline.launchCred (fun d => owed d order) c : sProp 𝕄)
    ⊢ bigSep Finset.univ fun p : Fin 8 => bigSep Finset.univ fun e : Ex => cred (tallyAt (cell c (p, true, e)) () N) := by
  rw [show (fun d : Dev nD => owed d order) = fun d => ∑ x : Fin 8 × St, tal d x from funext owed_sum, Pipeline.launchCred_sum]
  rw [← dues c]
  exact bigSep_mono fun x _ => cred_step c x

omit [FloatOps F] in
theorem cred_join (c : Dev nD) (a b : ℕ) :
    iprop(cred (tallyAt (barCell c) () a) ∗ cred (tallyAt (barCell c) () b)) ⊢ (cred (tallyAt (barCell c) () (a + b)) : sProp 𝕄) := by
  rw [show (tallyAt (barCell c) () (a + b) : CellTallies nD τ sig Unit) = tallyAt (barCell c) () a + tallyAt (barCell c) () b from by
    unfold tallyAt; rw [Finsupp.single_add, tallyOn_add]]
  exact (cred_add _ _).2

omit [FloatOps F] in
/-- What a device is owed at the launch: five units at its barrier, and a transfer's credit at each receiver's cell. -/
theorem creds (c : Dev nD) : (Pipeline.launchCred O₀ c : sProp 𝕄)
    ⊢ iprop(cred (tallyAt (barCell c) () 5)
        ∗ bigSep Finset.univ fun p : Fin 8 => bigSep Finset.univ fun e : Ex => cred (tallyAt (cell c (p, true, e)) () N)) := by
  unfold O₀
  rw [Pipeline.launchCred_add, Pipeline.launchCred_add, Pipeline.launchCred_add, Pipeline.launchCred_add, Pipeline.launchCred_add]
  iintro ⟨⟨⟨⟨⟨Hs, H4⟩, H3⟩, H2⟩, H1⟩, H0⟩
  ihave K4 := (cred_pal (F := F) 4 c) $$ H4
  ihave K3 := (cred_pal (F := F) 3 c) $$ H3
  ihave K2 := (cred_pal (F := F) 2 c) $$ H2
  ihave K1 := (cred_pal (F := F) 1 c) $$ H1
  ihave K0 := (cred_pal (F := F) 0 c) $$ H0
  ihave J2 := (cred_join (F := F) c 1 1) $$ [K0 K1]
  · isplitl [K0] <;> iassumption
  ihave J3 := (cred_join (F := F) c 2 1) $$ [J2 K2]
  · isplitl [J2] <;> iassumption
  ihave J4 := (cred_join (F := F) c 3 1) $$ [J3 K3]
  · isplitl [J3] <;> iassumption
  ihave J5 := (cred_join (F := F) c 4 1) $$ [J4 K4]
  · isplitl [J4] <;> iassumption
  isplitl [J5]; · iexact J5
  iapply (creds_steps (F := F) c); iexact Hs

/-! ## The launch's one step over all devices -/

variable (m : (ℓ : Loc nD τ sig) → Buf (Elt F) ℓ) (ρ : Dev nD → PrngReg)

/-- What stays with a device: its positions in its cells, and the tokens it pays with. -/
def keeps (c : Dev nD) : sProp 𝕄 := iprop((bigSep Finset.univ fun k : Cx => atPos ER (kcell (c, k)) 0 ∅ 0) ∗ payToks c)

/-- What the step over all devices makes of a device's part. -/
def G' (c : Dev nD) : sProp 𝕄 := iprop((∃ K, recs (start0 m ρ) K) ∗ keeps c)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun w : Wx => semVal (cell c w) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [ownSems0_eq, unscopedSems0_eq, bigSep_opt]
  iintro ⟨HD, HB⟩
  isplitl [HB] <;> iassumption

/-- A device's semaphores become cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (start0 m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (kcell (c, k)) 0) ∗ bigSep Finset.univ fun k : Cx => roundState ER (Rd (start0 m ρ)) (kcell (c, k)) 0)
      ⊢ (|={Set.univ}=> bigSep Finset.univ fun k => iprop(∃ κ : ℕ, cellInv ER (Rd (start0 m ρ)) κ (kcell (c, k))) : sProp 𝕄) from by
        rw [← bigSep_sep']
        exact (bigSep_mono fun k _ => (Rounds.body_intro ER (Rd (start0 m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem deal (K : Dev nD × Cx → ℕ) (c : Dev nD) : iprop(recs (start0 m ρ) K ∗ keeps c) ⊢ G' m ρ c := by
  unfold G'
  iintro ⟨#HR, Hk⟩
  isplitr; · iexists K; iexact HR
  iexact Hk

/-- Every device gets what all devices know, and its own part. -/
theorem regroup :
    (bigSep Finset.univ fun c : Dev nD => iprop((bigSep Finset.univ fun k => iprop(∃ κ : ℕ, cellInv ER (Rd (start0 m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cx => iprop(∃ κ : ℕ, cellInv ER (Rd (start0 m ρ)) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄)), toks_around]
  have hk : (bigSep Finset.univ fun c : Dev nD => (keeps c : sProp 𝕄))
      = iprop((bigSep Finset.univ fun c : Dev nD => bigSep Finset.univ fun k : Cx => atPos ER (kcell (c, k)) 0 ∅ 0) ∗ bigSep Finset.univ fun c : Dev nD => payToks c) := by
    unfold keeps; rw [bigSep_sep']
  iintro ⟨HI, ⟨Hat, #HR⟩, Htok⟩
  ihave HK := (BI.bigSep_exists_pi Finset.univ (fun (ck : Dev nD × Cx) (κ : ℕ) => (cellInv ER (Rd (start0 m ρ)) κ (kcell ck) : sProp 𝕄))) $$ HI
  icases HK with ⟨%K, #HI⟩
  iapply (BI.bigSep_with_persistent (R := recs (start0 m ρ) K) fun c _ => deal m ρ K c)
  isplitr
  · unfold recs; isplitl; · iexact HI
    iexact HR
  · iapply (Entails.of_eq hk.symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## A device's start and end -/

omit [FloatOps F] in
/-- Positions, tokens and credits, sorted by step. -/
theorem gears (c : Dev nD) :
    (bigSep Finset.univ fun p : Fin 8 => bigSep Finset.univ (gear (F := F) c p))
      = iprop((bigSep Finset.univ fun w : Wx => atPos ER (cell c w) 0 ∅ 0)
          ∗ (bigSep Finset.univ fun p : Fin 8 => bigSep Finset.univ fun e : Ex => dutyTok ER (cell c (p, false, e)) 0 0)
          ∗ (bigSep Finset.univ fun p : Fin 8 => bigSep Finset.univ fun e : Ex => dutyTok ER (cell (peer p e c) (p, true, e)) 0 0)
          ∗ bigSep Finset.univ fun p : Fin 8 => bigSep Finset.univ fun e : Ex => cred (tallyAt (cell c (p, true, e)) () N)) := by
  rw [bigSep_Wx, ← bigSep_sep', ← bigSep_sep', ← bigSep_sep', ← bigSep_sep']
  refine bigSep_congr fun p _ => ?_
  rw [bigSep_St]
  show iprop((bigSep Finset.univ fun e => iprop(dutyTok ER (cell c (p, false, e)) 0 0 ∗ dutyTok ER (cell (peer p e c) (p, true, e)) 0 0))
    ∗ (bigSep Finset.univ fun e : Ex => atPos ER (cell c (p, false, e)) 0 ∅ 0)
    ∗ (bigSep Finset.univ fun e : Ex => iprop(atPos ER (cell c (p, true, e)) 0 ∅ 0 ∗ cred (tallyAt (cell c (p, true, e)) () N)))
    ∗ iprop(emp) ∗ bigSep Finset.univ fun _ : Fin 4 => iprop(emp)) = _
  rw [bigSep_none, emp_left, emp_right, bigSep_sep', bigSep_sep']
  show BI.sep (BI.sep _ _) (BI.sep _ (BI.sep _ _)) = BI.sep (BI.sep _ _) (BI.sep _ (BI.sep _ _))
  ac_rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(devStart m ρ c ∗ emp) := by
  unfold G' keeps payToks
  iintro ⟨-, Hlev, Hcr, -, HK, Hat, Htb, Hts, Htr⟩
  ihave Hc := (creds (F := F) c) $$ Hcr
  icases Hc with ⟨HcB, HcS⟩
  ihave Ha := (Entails.of_eq (bigSep_opt fun k : Cx => (atPos ER (kcell (c, k)) 0 ∅ 0 : sProp 𝕄))) $$ Hat
  icases Ha with ⟨HaB, HaS⟩
  imodintro
  unfold devStart kit
  isplitl
  · isplitl [HK]; · iexact HK
    isplitl [Hlev]; · iexact Hlev
    isplitl [HaB]; · iexact HaB
    isplitl [HcB]; · iexact HcB
    isplitl [Htb]; · iexact Htb
    iapply (Entails.of_eq (gears (F := F) c).symm)
    isplitl [HaS]; · iexact HaS
    isplitl [Hts]; · iexact Hts
    isplitl [Htr] <;> iassumption
  · iempintro

theorem phi0_intro (c : Dev nD) :
    iprop(devStart m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended (F := F) c from rfl, scopedRest0_eq, ownSems0_eq, unscopedSems0_eq]
  unfold ended scratch
  iintro ⟨Hr, HzS, HzB⟩
  isplitl [HzB]; · iexact HzB
  isplitl [HzS] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_named w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero, over any floats: the kernel terminates on all thirty-two devices,
    every array ends at its final contents, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := devStart m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Cube

end
-- ==== Proof.KernelIdeal.Final.lean ====
/-
# The final arrays

Both windows are whole arrays. The body's input is therefore the device's whole argument, and the result array ends at
what the body left in the result's staging buffer. With the run this is the program's frame and its result.
-/
module

public import proofs.«01_k».proof.Proof.KernelIdeal.Run

@[expose] public section

noncomputable section

namespace Cert.KernelIdeal.Cube

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The input's block is the whole argument. -/
theorem xstg_eq (c : Dev nD) : xstg m ρ c = m ((c : Thread nD τ).loc main_arg0) := by
  funext i
  show m ((c : Thread nD τ).loc main_arg0) ((win0_0.rect t0_0).idx i) = _
  congr 1
  funext a
  refine Fin.ext ?_
  show 0 * _ + 1 * (i a).val = (i a).val
  omega

/-- The result's block is every index of the result array. -/
theorem mem_blk (t : Fin cfg0.N) (i : S256x256.Idx) : i ∈ ((cfg0.win 1).blk t).view.set := by
  show i ∈ ((View.whole main_v1).slice (win0_1.rect t)).set
  rw [View.set_slice_whole, Rect.mem_set_unit]
  intro a
  show 0 * _ ≤ (i a).val ∧ (i a).val < 0 * _ + S256x256.size a
  have := (i a).isLt
  omega

theorem flushed_eq (c : Dev nD) (t : Fin cfg0.N) :
    (dats m ρ 0 c).flushed 1 t = ((cfg0.win 1).blk t).view.read (Elt F) (outAt (start0 m ρ) c) := by
  funext i
  show outAt (start0 m ρ) c _ = outAt (start0 m ρ) c _
  congr 1
  funext a
  refine Fin.ext ?_
  show (i a).val = 0 * _ + 1 * (i a).val
  omega

/-- The result array ends at what the body leaves. -/
theorem finalA_out (c : Dev nD) : finalA m ρ c (1 : Fin 2) = outAt (start0 m ρ) c :=
  (dats m ρ 0 c).arrAt_eq_of_cover 1 (outAt (start0 m ρ) c) (fun t _ => flushed_eq m ρ c t)
    fun i => ⟨t0_0, flush0_1 _, mem_blk _ i⟩

/-- From any memory with every semaphore at zero, over any floats: the kernel terminates on all thirty-two devices;
    each device's result is what the body leaves, its argument is unchanged, and every semaphore is at zero. -/
theorem run_result : θ_run defs (onTc (τ := τ) (main (F := F))) ⟨m, fun _ => 0, ρ⟩ (fun r =>
    (∀ c : Dev nD, r.2.mem ((c.tc : Thread nD τ).loc main_v1) = outAt (start0 m ρ) c
      ∧ r.2.mem ((c.tc : Thread nD τ).loc main_arg0) = m ((c.tc : Thread nD τ).loc main_arg0))
    ∧ r.2.sem = fun _ => 0) :=
  (θ_run defs _ _).mono (fun r h => ⟨fun c => ⟨(h.1 c 1).trans (finalA_out m ρ c), (h.1 c 0).trans (finalA_x m ρ c)⟩, h.2⟩)
    (run_main m ρ)

end Cert.KernelIdeal.Cube

end
-- ==== Proof.KernelIdeal.Value.lean ====
/-
# The value, in the extended reals

The exchange across `x` adds the two halves of the mesh pixel by pixel, and each of the four exchanges across `y` and `z`
doubles the devices a partial sum covers. After the last one a chunk holds, at every pixel, the sum over each of the
thirty-two devices once, whichever order the chunk's exchanges came in. Hence every device ends with the sum of all
blocks, which is what the reference's reduction over its first three dimensions is.
-/
module

public import proofs.«01_k».proof.Proof.KernelIdeal.Final
public import proofs.«01_k».proof.Proof.Gen.ReferenceIdeal.Run
public import Idealize.ShloMosaic.Lib.IdealHost
public import Idealize.ShloMosaic.Lib.Layout

@[expose] public section

noncomputable section

namespace Cert.KernelIdeal.Cube

open Cert.KernelIdeal Cert.KernelIdeal.Gen
open Idealize.ShloMosaic Idealize.ShloMosaic.TcCoe
open Idealize.SL Idealize.SL.Sem
open Idealize.ShloMosaic.ValueIdx
open scoped BigOperators

/-! ## Which devices a partial sum covers -/

/-- The devices whose blocks are summed in chunk `p` of device `c` after the exchange across `x` and `n` more. -/
def covers (p : Fin 8) : ℕ → Dev nD → List (Dev nD)
  | 0, c => [c, xDev c]
  | n + 1, c => covers p n c ++ covers p n (midDev p ⟨n % 4, Nat.mod_lt _ (by decide)⟩ c)

/-- After the last exchange every device is covered exactly once. -/
theorem covers_all (p : Fin 8) (c : Dev nD) : (covers p 4 c).Perm (List.finRange 32) := by
  revert p c; decide +kernel

theorem half_midDev (p : Fin 8) (t : Fin 4) (c : Dev nD) : half (midDev p t c) = half c := by
  revert p t c; decide +kernel

theorem half_lt (c : Dev nD) : half c < 2 := by revert c; decide +kernel

/-! ## Pixels -/

/-- The pixel of the whole block that index `k` of chunk `p` in half `h` is. -/
def pix (h : ℕ) (hh : h < 2) (p : Fin 8) (k : S16x256.Idx) : S256x256.Idx :=
  ix2 (⟨16 * (8 * h + p.val) + (k 0).val, by have h0 : (k 0).val < 16 := (k 0).isLt; have := p.isLt; omega⟩ : Fin 256) (k 1 : Fin 256)

variable (X : Dev nD → Vec Ideal S256x256 .f32)

/-- Sixteen rows at the offset of chunk `p` in half `h` read the block at the chunk's pixels. -/
theorem rows_apply {o : Fin 2 → ℕ} (h : ℕ) (hh : h < 2) (p : Fin 8) (ho : o = ![16 * (8 * h + p.val), 0])
    (hi : ∀ a, o a + S16x256.size a ≤ S256x256.size a) (f : Vec Ideal S256x256 .f32) (k : S16x256.Idx) :
    (outM.slice (Rect.unit (s := S256x256) o S16x256.size hi) (fun _ => rfl)).view.read (Elt Ideal) f k = f (pix h hh p k) := by
  subst ho
  show f ((Rect.unit (s := S256x256) ![16 * (8 * h + p.val), 0] S16x256.size hi).idx k) = _
  congr 1
  funext a
  refine Fin.ext ?_
  match a with
  | 0 => show 16 * (8 * h + p.val) + 1 * (k 0).val = 16 * (8 * h + p.val) + (k 0).val; omega
  | 1 => show 0 + 1 * (k 1).val = (k 1).val; omega

theorem own0_apply (c : Dev nD) (p : Fin 8) (k : S16x256.Idx) : own0 X c p k = X c (pix (half c) (half_lt c) p k) :=
  rows_apply (half c) (half_lt c) p (off3_eq c p) (k0_off3_inb c p) (X c) k

/-- What the device across `x` gives is its block at the same pixels. -/
theorem give0_apply (c : Dev nD) (p : Fin 8) (k : S16x256.Idx) :
    give0 X (xDev c) p k = X (xDev c) (pix (half c) (half_lt c) p k) :=
  rows_apply (half c) (half_lt c) p ((off1_xDev c p).trans (off3_eq c p)) (k0_off1_inb (xDev c) p) (X (xDev c)) k

/-- A partial sum is the sum over the devices it covers. -/
theorem acc_apply (n : ℕ) (c : Dev nD) (p : Fin 8) (k : S16x256.Idx) (h : ℕ) (hh : h < 2) (hc : half c = h) :
    acc X n c p k = ((covers p n c).map fun d => (X d (pix h hh p k) : EReal)).sum := by
  induction n generalizing c with
  | zero =>
    subst hc
    show (own0 X c p k + give0 X (xDev c) p k : EReal) = _
    rw [own0_apply, give0_apply]
    simp [covers]
  | succ n ih =>
    show (acc X n c p k + acc X n (midDev p ⟨n % 4, _⟩ c) p k : EReal) = _
    rw [ih c hc, ih _ ((half_midDev p _ c).trans hc)]
    simp [covers]

/-- A finished chunk holds the sum over all devices. -/
theorem acc_four (c : Dev nD) (p : Fin 8) (k : S16x256.Idx) (h : ℕ) (hh : h < 2) (hc : half c = h) :
    acc X 4 c p k = ∑ d : Dev nD, (X d (pix h hh p k) : EReal) := by
  rw [acc_apply X 4 c p k h hh hc, ((covers_all p c).map _).sum_eq, Fin.sum_univ_def]

theorem half_pick (c : Dev nD) (h : ℕ) (hh : h < 2) : half (if h = half c then c else xDev c) = h := by
  have e : ∀ (c : Dev nD) (h : Fin 2), half (if h.val = half c then c else xDev c) = h.val := by decide +kernel
  exact e c ⟨h, hh⟩

/-- Every device's result is the sum of all devices' blocks. -/
theorem outAt_apply (c : Dev nD) (i : S256x256.Idx) : outAt X c i = ∑ d : Dev nD, (X d i : EReal) := by
  have h0 : (i 0).val < 256 := (i 0).isLt
  have hh : (i 0).val / 128 < 2 := by omega
  unfold outAt
  rw [acc_four X _ _ _ ((i 0).val / 128) hh (half_pick c _ hh)]
  refine Finset.sum_congr rfl fun d _ => congrArg (X d) ?_
  funext a
  refine Fin.ext ?_
  match a with
  | 0 =>
    show 16 * (8 * ((i 0).val / 128) + (i 0).val / 16 % 8) + (i 0).val % 16 = (i 0).val
    omega
  | 1 => rfl

/-! ## The reference -/

/-- Device `d`'s place in the whole array: its coordinates in the mesh, then the pixel. -/
def place (d : Fin 32) (i : S256x256.Idx) : Cert.ReferenceIdeal.S2x4x4x256x256.Idx :=
  ix5 (⟨d.val / 16, by have := d.isLt; omega⟩ : Fin 2) (⟨d.val / 4 % 4, by omega⟩ : Fin 4) (⟨d.val % 4, by omega⟩ : Fin 4)
    (i 0 : Fin 256) (i 1 : Fin 256)

/-- Two indices of the whole array with the same five coordinates are the same. -/
theorem idx_ext (y z : Cert.ReferenceIdeal.S2x4x4x256x256.Idx) (h0 : (y 0).val = (z 0).val) (h1 : (y 1).val = (z 1).val)
    (h2 : (y 2).val = (z 2).val) (h3 : (y 3).val = (z 3).val) (h4 : (y 4).val = (z 4).val) : y = z := by
  funext k
  match k with
  | 0 => exact Fin.ext h0
  | 1 => exact Fin.ext h1
  | 2 => exact Fin.ext h2
  | 3 => exact Fin.ext h3
  | 4 => exact Fin.ext h4

/-- The device whose block an index of the whole array lies in. -/
def holder (y : Cert.ReferenceIdeal.S2x4x4x256x256.Idx) : Fin 32 :=
  ⟨16 * (y 0).val + 4 * (y 1).val + (y 2).val, by
    have h0 : (y 0).val < 2 := (y 0).isLt
    have h1 : (y 1).val < 4 := (y 1).isLt
    have h2 : (y 2).val < 4 := (y 2).isLt
    omega⟩

theorem holder_place (d : Fin 32) (i : S256x256.Idx) : holder (place d i) = d := by
  refine Fin.ext ?_
  show 16 * (d.val / 16) + 4 * (d.val / 4 % 4) + d.val % 4 = d.val
  have := d.isLt
  omega

theorem place_holder (y : Cert.ReferenceIdeal.S2x4x4x256x256.Idx) (i : S256x256.Idx) (h3 : (y 3).val = (i 0).val)
    (h4 : (y 4).val = (i 1).val) : place (holder y) i = y := by
  have h0 : (y 0).val < 2 := (y 0).isLt
  have h1 : (y 1).val < 4 := (y 1).isLt
  have h2 : (y 2).val < 4 := (y 2).isLt
  refine idx_ext _ _ ?_ ?_ ?_ h3.symm h4.symm
  · show (16 * (y 0).val + 4 * (y 1).val + (y 2).val) / 16 = (y 0).val; omega
  · show (16 * (y 0).val + 4 * (y 1).val + (y 2).val) / 4 % 4 = (y 1).val; omega
  · show (16 * (y 0).val + 4 * (y 1).val + (y 2).val) % 4 = (y 2).val; omega

/-- An index of the whole array is summed into pixel `i` exactly when its last two coordinates are the pixel's. -/
theorem drop_iff (h : Cert.ReferenceIdeal.S2x4x4x256x256.ReducesTo [0, 1, 2] Cert.ReferenceIdeal.S256x256)
    (y : Cert.ReferenceIdeal.S2x4x4x256x256.Idx) (i : S256x256.Idx) :
    h.drop y = i ↔ (y 3).val = (i 0).val ∧ (y 4).val = (i 1).val := by
  have e0 : (h.drop y 0).val = (y 3).val := h.drop_apply_val_of_eq y 0 3
  have e1 : (h.drop y 1).val = (y 4).val := h.drop_apply_val_of_eq y 1 4
  constructor
  · intro e
    exact ⟨e0.symm.trans (congrArg (fun k : S256x256.Idx => (k 0).val) e), e1.symm.trans (congrArg (fun k : S256x256.Idx => (k 1).val) e)⟩
  · rintro ⟨a, b⟩
    funext k
    match k with
    | 0 => exact Fin.ext (e0.trans a)
    | 1 => exact Fin.ext (e1.trans b)

open Cert.ReferenceIdeal in
/-- The reference's reduction is the sum over the places of the devices. -/
theorem reference_apply (x : FVec Ideal S2x4x4x256x256 .f32) (h : S2x4x4x256x256.ReducesTo [0, 1, 2] S256x256)
    (hu : 0 < S_.numel) (i : S256x256.Idx) :
    Host.reduceAdd x (constant S_ .f32 0x00000000#32) h hu i = ∑ d : Fin 32, (x (place d i) : EReal) := by
  rw [hostReduceAdd_apply]
  unfold Ideal.hostReduceAdd
  show Ideal.ofBits .f32 0x00000000#32 + _ = _
  rw [Ideal.ofBits_zero_f32, zero_add]
  have hm : ∀ y ∈ Finset.univ.filter fun y => h.drop y = i, place (holder y) i = y := fun y hy =>
    have e := (drop_iff h y i).1 (Finset.mem_filter.1 hy).2
    place_holder y i e.1 e.2
  exact Finset.sum_bij' (fun y _ => holder y) (fun d _ => place d i) (fun _ _ => Finset.mem_univ _)
    (fun d _ => Finset.mem_filter.2 ⟨Finset.mem_univ _, (drop_iff h _ i).2 ⟨rfl, rfl⟩⟩) hm (fun d _ => holder_place d i)
    fun y hy => (congrArg x (hm y hy)).symm

/-! ## A device's block -/

/-- A block read as a matrix. -/
theorem pay_apply (v : Vec Ideal S1x1x1x256x256 .f32) (i : S256x256.Idx) :
    k0_pay1 v i = v (ix5 (0 : Fin 1) (0 : Fin 1) (0 : Fin 1) (i 0 : Fin 256) (i 1 : Fin 256)) := by
  have hk : (S1x1x1x256x256.rowMajor (ix5 (0 : Fin 1) (0 : Fin 1) (0 : Fin 1) (i 0 : Fin 256) (i 1 : Fin 256))).val
      = (S256x256.rowMajor i).val := by
    refine (Shape.rowMajor_val_five _).trans (Eq.trans ?_ (Shape.rowMajor_val_two i).symm)
    show (((0 * 1 + 0) * 1 + 0) * 256 + (i 0).val) * 256 + (i 1).val = (i 0).val * 256 + (i 1).val
    omega
  exact shapeCast_apply v shapeCasts_S1x1x1x256x256_S256x256 i _ hk

/-- The offset, along the whole array, of the block device `d`'s coordinates name. -/
theorem mesh_at (d : Fin 32) : ((Layout.meshBlock [2, 4, 4] (![[0], [1], [2], [], []] : Fin 5 → List Nat) d) 0).val = d.val / 16
    ∧ ((Layout.meshBlock [2, 4, 4] (![[0], [1], [2], [], []] : Fin 5 → List Nat) d) 1).val = d.val / 4 % 4
    ∧ ((Layout.meshBlock [2, 4, 4] (![[0], [1], [2], [], []] : Fin 5 → List Nat) d) 2).val = d.val % 4
    ∧ ((Layout.meshBlock [2, 4, 4] (![[0], [1], [2], [], []] : Fin 5 → List Nat) d) 3).val = 0
    ∧ ((Layout.meshBlock [2, 4, 4] (![[0], [1], [2], [], []] : Fin 5 → List Nat) d) 4).val = 0 := by
  revert d; decide +kernel

/-- A device's block, read as a matrix, is the whole array at the device's place. -/
theorem block_apply (x : FVec Ideal Cert.ReferenceIdeal.S2x4x4x256x256 .f32) (d : Fin 32) (i : S256x256.Idx) :
    k0_pay1 (Layout.blockN ⟨5, ![1, 1, 1, 256, 256]⟩ ⟨5, ![2, 4, 4, 256, 256]⟩
      (Layout.meshBlock [2, 4, 4] ![[0], [1], [2], [], []] d) x) i = x (place d i) := by
  refine (pay_apply _ i).trans ?_
  refine (Layout.blockN_apply _ _ _ _).trans (congrArg x ?_)
  obtain ⟨e0, e1, e2, e3, e4⟩ := mesh_at d
  refine idx_ext _ _ ?_ ?_ ?_ ?_ ?_ <;> rw [Layout.TilesN.idx_val]
  · exact (congrArg (· * 1 + 0) e0).trans (by show d.val / 16 * 1 + 0 = d.val / 16; omega)
  · exact (congrArg (· * 1 + 0) e1).trans (by show d.val / 4 % 4 * 1 + 0 = d.val / 4 % 4; omega)
  · exact (congrArg (· * 1 + 0) e2).trans (by show d.val % 4 * 1 + 0 = d.val % 4; omega)
  · exact (congrArg (· * 256 + (i 0).val) e3).trans (by show 0 * 256 + (i 0).val = (i 0).val; omega)
  · exact (congrArg (· * 256 + (i 1).val) e4).trans (by show 0 * 256 + (i 1).val = (i 1).val; omega)

/-- Where every device's argument is its block of the whole array `x`, every device's result is the reference's. -/
theorem outAt_eq (m : (ℓ : Loc nD τ sig) → Buf (Elt Ideal) ℓ) (ρ : Dev nD → PrngReg)
    (x : FVec Ideal Cert.ReferenceIdeal.S2x4x4x256x256 .f32)
    (hm : ∀ c : Dev nD, m ((c.tc : Thread nD τ).loc main_arg0) = Layout.blockN ⟨5, ![1, 1, 1, 256, 256]⟩ ⟨5, ![2, 4, 4, 256, 256]⟩
      (Layout.meshBlock [2, 4, 4] ![[0], [1], [2], [], []] c) x)
    (h : Cert.ReferenceIdeal.S2x4x4x256x256.ReducesTo [0, 1, 2] Cert.ReferenceIdeal.S256x256) (hu : 0 < Cert.ReferenceIdeal.S_.numel)
    (c : Dev nD) :
    outAt (start0 m ρ) c = Host.reduceAdd x (constant Cert.ReferenceIdeal.S_ .f32 0x00000000#32) h hu := by
  funext i
  rw [outAt_apply, reference_apply]
  refine Finset.sum_congr rfl fun d _ => ?_
  unfold start0
  rw [xstg_eq, hm d]
  exact block_apply x d i

end Cert.KernelIdeal.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Final
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, over the chip's floats, terminates with its argument unchanged and every semaphore at zero. -/
theorem frame_kernel : Cert.quiescent_Kernel := fun m ρ _ =>
  (θ_run Cert.Kernel.defs _ _).mono (fun _ h => ⟨fun c => (h.1 c).2, h.2⟩) (Cert.Kernel.Cube.run_result (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (Cert.KernelIdeal.Cube.run_result (F := Ideal) m ρ)

/-- The reference terminates with its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In the extended reals every device's result is the reference's: the sum of all blocks. -/
theorem value : Cert.algebraic_KernelIdeal_ReferenceIdeal := fun m ρ m' ρ' _ hm =>
  ⟨_, (θ_run Cert.KernelIdeal.defs _ _).mono
      (fun _ h c => ⟨(h.1 c).1.trans (Cert.KernelIdeal.Cube.outAt_eq m ρ _ hm _ _ c), (h.1 c).2⟩)
      (Cert.KernelIdeal.Cube.run_result (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
